-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def preserves_Mlp_MlpIdeal : Prop :=
  IdealRules.named_const.Statement Cert.MlpIdeal.κ "inv_127" .f32 0x3C010204#32 ((1 / 127 : ℝ) : EReal)
  ∧ IdealRules.named_const.Statement Cert.MlpIdeal.κ "inv_896" .f32 0x3A924925#32 ((1 / 896 : ℝ) : EReal)

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v5_0)) (v1 : (c : Dev Cert.MlpIdeal.nD) → Buf (Elt Ideal) ((c.tc : Thread Cert.MlpIdeal.nD Cert.MlpIdeal.τ).loc Cert.MlpIdeal.main_v5_1)) (v2 : (c : Dev Cert.MlpIdeal.nD) → Buf (Elt Ideal) ((c.tc : Thread Cert.MlpIdeal.nD Cert.MlpIdeal.τ).loc Cert.MlpIdeal.main_v5_2)) (v3 : (c : Dev Cert.MlpIdeal.nD) → Buf (Elt Ideal) ((c.tc : Thread Cert.MlpIdeal.nD Cert.MlpIdeal.τ).loc Cert.MlpIdeal.main_v5_3)) (v4 : (c : Dev Cert.MlpIdeal.nD) → Buf (Elt Ideal) ((c.tc : Thread Cert.MlpIdeal.nD Cert.MlpIdeal.τ).loc Cert.MlpIdeal.main_v5_4)) (v5 : (c : Dev Cert.MlpIdeal.nD) → Buf (Elt Ideal) ((c.tc : Thread Cert.MlpIdeal.nD Cert.MlpIdeal.τ).loc Cert.MlpIdeal.main_v5_5)) (v6 : (c : Dev Cert.MlpIdeal.nD) → Buf (Elt Ideal) ((c.tc : Thread Cert.MlpIdeal.nD Cert.MlpIdeal.τ).loc Cert.MlpIdeal.main_v5_6)) (v7 : (c : Dev Cert.MlpIdeal.nD) → Buf (Elt Ideal) ((c.tc : Thread Cert.MlpIdeal.nD Cert.MlpIdeal.τ).loc Cert.MlpIdeal.main_v5_7)) (v8 : (c : Dev Cert.MlpIdeal.nD) → Buf (Elt Ideal) ((c.tc : Thread Cert.MlpIdeal.nD Cert.MlpIdeal.τ).loc Cert.MlpIdeal.main_v5_8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5_0) = v0 c
          ∧ r.2.mem ((c.tc : Thread Cert.MlpIdeal.nD Cert.MlpIdeal.τ).loc Cert.MlpIdeal.main_v5_1) = v1 c
          ∧ r.2.mem ((c.tc : Thread Cert.MlpIdeal.nD Cert.MlpIdeal.τ).loc Cert.MlpIdeal.main_v5_2) = v2 c
          ∧ r.2.mem ((c.tc : Thread Cert.MlpIdeal.nD Cert.MlpIdeal.τ).loc Cert.MlpIdeal.main_v5_3) = v3 c
          ∧ r.2.mem ((c.tc : Thread Cert.MlpIdeal.nD Cert.MlpIdeal.τ).loc Cert.MlpIdeal.main_v5_4) = v4 c
          ∧ r.2.mem ((c.tc : Thread Cert.MlpIdeal.nD Cert.MlpIdeal.τ).loc Cert.MlpIdeal.main_v5_5) = v5 c
          ∧ r.2.mem ((c.tc : Thread Cert.MlpIdeal.nD Cert.MlpIdeal.τ).loc Cert.MlpIdeal.main_v5_6) = v6 c
          ∧ r.2.mem ((c.tc : Thread Cert.MlpIdeal.nD Cert.MlpIdeal.τ).loc Cert.MlpIdeal.main_v5_7) = v7 c
          ∧ r.2.mem ((c.tc : Thread Cert.MlpIdeal.nD Cert.MlpIdeal.τ).loc Cert.MlpIdeal.main_v5_8) = v8 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v168) = v0 c
          ∧ r.2.mem ((c.tc : Thread Cert.MlpRefIdeal.nD Cert.MlpRefIdeal.τ).loc Cert.MlpRefIdeal.main_v51) = v1 c
          ∧ r.2.mem ((c.tc : Thread Cert.MlpRefIdeal.nD Cert.MlpRefIdeal.τ).loc Cert.MlpRefIdeal.main_v169) = v2 c
          ∧ r.2.mem ((c.tc : Thread Cert.MlpRefIdeal.nD Cert.MlpRefIdeal.τ).loc Cert.MlpRefIdeal.main_v173_0) = v3 c
          ∧ r.2.mem ((c.tc : Thread Cert.MlpRefIdeal.nD Cert.MlpRefIdeal.τ).loc Cert.MlpRefIdeal.main_v170) = v4 c
          ∧ r.2.mem ((c.tc : Thread Cert.MlpRefIdeal.nD Cert.MlpRefIdeal.τ).loc Cert.MlpRefIdeal.main_v173_1) = v5 c
          ∧ r.2.mem ((c.tc : Thread Cert.MlpRefIdeal.nD Cert.MlpRefIdeal.τ).loc Cert.MlpRefIdeal.main_v171) = v6 c
          ∧ r.2.mem ((c.tc : Thread Cert.MlpRefIdeal.nD Cert.MlpRefIdeal.τ).loc Cert.MlpRefIdeal.main_v173_2) = v7 c
          ∧ r.2.mem ((c.tc : Thread Cert.MlpRefIdeal.nD Cert.MlpRefIdeal.τ).loc Cert.MlpRefIdeal.main_v172) = v8 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11))

def Claim : Prop :=
  ∃ (hMlp : Cert.Mlp.Facts) (hMlpIdeal : Cert.MlpIdeal.Facts) (hMlpRefIdeal : Cert.MlpRefIdeal.Facts),
    quiescent_Mlp (hMlp := hMlp)
    ∧ quiescent_MlpIdeal (hMlpIdeal := hMlpIdeal)
    ∧ quiescent_MlpRefIdeal (hMlpRefIdeal := hMlpRefIdeal)
    ∧ preserves_Mlp_MlpIdeal
    ∧ algebraic_MlpIdeal_MlpRefIdeal (hMlpIdeal := hMlpIdeal) (hMlpRefIdeal := hMlpRefIdeal)
-- ==== Mlp.lean ====
abbrev S192x1x896 : Shape := ⟨3, ![192, 1, 896]⟩
abbrev S192x896 : Shape := ⟨2, ![192, 896]⟩
abbrev S896x112 : Shape := ⟨2, ![896, 112]⟩
abbrev S7x112 : Shape := ⟨2, ![7, 112]⟩
abbrev S7x896 : Shape := ⟨2, ![7, 896]⟩
abbrev S896 : Shape := ⟨1, ![896]⟩
abbrev S896x1216 : Shape := ⟨2, ![896, 1216]⟩
abbrev S7x1216 : Shape := ⟨2, ![7, 1216]⟩
abbrev S7x9728 : Shape := ⟨2, ![7, 9728]⟩
abbrev S4864x112 : Shape := ⟨2, ![4864, 112]⟩
abbrev S38x112 : Shape := ⟨2, ![38, 112]⟩
abbrev S38x896 : Shape := ⟨2, ![38, 896]⟩
abbrev S112x896 : Shape := ⟨2, ![112, 896]⟩
abbrev S1x896 : Shape := ⟨2, ![1, 896]⟩
abbrev S1216x896 : Shape := ⟨2, ![1216, 896]⟩
abbrev S112x4864 : Shape := ⟨2, ![112, 4864]⟩
abbrev S1x192 : Shape := ⟨2, ![1, 192]⟩
abbrev S192x4864 : Shape := ⟨2, ![192, 4864]⟩
abbrev S38x192x128 : Shape := ⟨3, ![38, 192, 128]⟩
abbrev S1216x8 : Shape := ⟨2, ![1216, 8]⟩
abbrev S9728x8 : Shape := ⟨2, ![9728, 8]⟩
abbrev S192 : Shape := ⟨1, ![192]⟩
abbrev S192x1 : Shape := ⟨2, ![192, 1]⟩
abbrev S7x16 : Shape := ⟨2, ![7, 16]⟩
abbrev S7x128 : Shape := ⟨2, ![7, 128]⟩
abbrev S1x16 : Shape := ⟨2, ![1, 16]⟩
abbrev S8x16 : Shape := ⟨2, ![8, 16]⟩
abbrev S1x128 : Shape := ⟨2, ![1, 128]⟩
abbrev S8x128 : Shape := ⟨2, ![8, 128]⟩
abbrev S16x8 : Shape := ⟨2, ![16, 8]⟩
abbrev S16x1x8 : Shape := ⟨3, ![16, 1, 8]⟩
abbrev S16x8x8 : Shape := ⟨3, ![16, 8, 8]⟩
abbrev S128x8 : Shape := ⟨2, ![128, 8]⟩
abbrev S16x896 : Shape := ⟨2, ![16, 896]⟩
abbrev S16x1x896 : Shape := ⟨3, ![16, 1, 896]⟩
abbrev S16x8x896 : Shape := ⟨3, ![16, 8, 896]⟩
abbrev S128x896 : Shape := ⟨2, ![128, 896]⟩
abbrev S128x1 : Shape := ⟨2, ![128, 1]⟩
abbrev S128x128 : Shape := ⟨2, ![128, 128]⟩
abbrev S192x128 : Shape := ⟨2, ![192, 128]⟩
abbrev S896x192 : Shape := ⟨2, ![896, 192]⟩
abbrev S1x1216 : Shape := ⟨2, ![1, 1216]⟩
abbrev S8x1216 : Shape := ⟨2, ![8, 1216]⟩
abbrev S1x9728 : Shape := ⟨2, ![1, 9728]⟩
abbrev S8x9728 : Shape := ⟨2, ![8, 9728]⟩
abbrev S1x192x128 : Shape := ⟨3, ![1, 192, 128]⟩
abbrev S2x112 : Shape := ⟨2, ![2, 112]⟩
abbrev S40x112 : Shape := ⟨2, ![40, 112]⟩
abbrev S2x896 : Shape := ⟨2, ![2, 896]⟩
abbrev S40x896 : Shape := ⟨2, ![40, 896]⟩
abbrev S112x40 : Shape := ⟨2, ![112, 40]⟩
abbrev S112x1x40 : Shape := ⟨3, ![112, 1, 40]⟩
abbrev S112x8x40 : Shape := ⟨3, ![112, 8, 40]⟩
abbrev S896x40 : Shape := ⟨2, ![896, 40]⟩
abbrev S112x256 : Shape := ⟨2, ![112, 256]⟩
abbrev S192x256 : Shape := ⟨2, ![192, 256]⟩
abbrev S112x1x256 : Shape := ⟨3, ![112, 1, 256]⟩
abbrev S112x8x256 : Shape := ⟨3, ![112, 8, 256]⟩
abbrev S896x256 : Shape := ⟨2, ![896, 256]⟩
abbrev S896x1 : Shape := ⟨2, ![896, 1]⟩
abbrev S896x128 : Shape := ⟨2, ![896, 128]⟩

abbrev nBuf : Space → Nat
  | .hbm => 26
  | .vmem => 26
  | .smem => 0
  | _ => 0

abbrev bufTy : (tb : Table) → Fin (tcTables nBuf tb) → BufTy
  | .hbm, ⟨0, _⟩ => ⟨S192x1x896, .bf16⟩
  | .hbm, ⟨1, _⟩ => ⟨S192x896, .f32⟩
  | .hbm, ⟨2, _⟩ => ⟨S896x112, .i32⟩
  | .hbm, ⟨3, _⟩ => ⟨S7x112, .i32⟩
  | .hbm, ⟨4, _⟩ => ⟨S7x896, .bf16⟩
  | .hbm, ⟨5, _⟩ => ⟨S896, .f32⟩
  | .hbm, ⟨6, _⟩ => ⟨S896x1216, .i32⟩
  | .hbm, ⟨7, _⟩ => ⟨S7x1216, .i32⟩
  | .hbm, ⟨8, _⟩ => ⟨S7x9728, .bf16⟩
  | .hbm, ⟨9, _⟩ => ⟨S4864x112, .i32⟩
  | .hbm, ⟨10, _⟩ => ⟨S38x112, .i32⟩
  | .hbm, ⟨11, _⟩ => ⟨S38x896, .bf16⟩
  | .hbm, ⟨12, _⟩ => ⟨S192x896, .bf16⟩
  | .hbm, ⟨13, _⟩ => ⟨S112x896, .i32⟩
  | .hbm, ⟨14, _⟩ => ⟨S1x896, .f32⟩
  | .hbm, ⟨15, _⟩ => ⟨S1216x896, .i32⟩
  | .hbm, ⟨16, _⟩ => ⟨S112x4864, .i32⟩
  | .hbm, ⟨17, _⟩ => ⟨S192x896, .bf16⟩
  | .hbm, ⟨18, _⟩ => ⟨S192x896, .f32⟩
  | .hbm, ⟨19, _⟩ => ⟨S192x896, .bf16⟩
  | .hbm, ⟨20, _⟩ => ⟨S192x896, .i8⟩
  | .hbm, ⟨21, _⟩ => ⟨S1x192, .f32⟩
  | .hbm, ⟨22, _⟩ => ⟨S192x896, .i8⟩
  | .hbm, ⟨23, _⟩ => ⟨S1x192, .f32⟩
  | .hbm, ⟨24, _⟩ => ⟨S192x4864, .i8⟩
  | .hbm, ⟨25, _⟩ => ⟨S1x192, .f32⟩
  | .local _ .vmem, ⟨0, _⟩ => ⟨S192x896, .bf16⟩
  | .local _ .vmem, ⟨1, _⟩ => ⟨S192x896, .f32⟩
  | .local _ .vmem, ⟨2, _⟩ => ⟨S112x896, .i32⟩
  | .local _ .vmem, ⟨3, _⟩ => ⟨S7x112, .i32⟩
  | .local _ .vmem, ⟨4, _⟩ => ⟨S7x896, .bf16⟩
  | .local _ .vmem, ⟨5, _⟩ => ⟨S1x896, .f32⟩
  | .local _ .vmem, ⟨6, _⟩ => ⟨S1216x896, .i32⟩
  | .local _ .vmem, ⟨7, _⟩ => ⟨S7x1216, .i32⟩
  | .local _ .vmem, ⟨8, _⟩ => ⟨S7x9728, .bf16⟩
  | .local _ .vmem, ⟨9, _⟩ => ⟨S112x4864, .i32⟩
  | .local _ .vmem, ⟨10, _⟩ => ⟨S38x112, .i32⟩
  | .local _ .vmem, ⟨11, _⟩ => ⟨S38x896, .bf16⟩
  | .local _ .vmem, ⟨12, _⟩ => ⟨S192x896, .bf16⟩
  | .local _ .vmem, ⟨13, _⟩ => ⟨S192x896, .f32⟩
  | .local _ .vmem, ⟨14, _⟩ => ⟨S192x896, .bf16⟩
  | .local _ .vmem, ⟨15, _⟩ => ⟨S192x896, .i8⟩
  | .local _ .vmem, ⟨16, _⟩ => ⟨S1x192, .f32⟩
  | .local _ .vmem, ⟨17, _⟩ => ⟨S192x896, .i8⟩
  | .local _ .vmem, ⟨18, _⟩ => ⟨S1x192, .f32⟩
  | .local _ .vmem, ⟨19, _⟩ => ⟨S192x4864, .i8⟩
  | .local _ .vmem, ⟨20, _⟩ => ⟨S1x192, .f32⟩
  | .local _ .vmem, ⟨21, _⟩ => ⟨S192x896, .f32⟩
  | .local _ .vmem, ⟨22, _⟩ => ⟨S38x192x128, .f32⟩
  | .local _ .vmem, ⟨23, _⟩ => ⟨S1216x8, .i32⟩
  | .local _ .vmem, ⟨24, _⟩ => ⟨S9728x8, .f32⟩
  | .local _ .vmem, ⟨25, _⟩ => ⟨S38x192x128, .bf16⟩
  | _, _ => ⟨S192x1x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev main_v5_8 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

@[reducible] def k0_t1_loop : Scf.Loop 32 :=
  let c0_i32_241 : BitVec 32 := 0#32
  let c38_i32 : BitVec 32 := 38#32
  let v1146 : BitVec 32 := Scalar.addi c0_i32_241 c38_i32
  let c1_i32 : BitVec 32 := 1#32
  ⟨c0_i32_241, v1146, c1_i32⟩
def k0_mult1 (k0_t1 : Fin k0_t1_loop.trips) : BitVec 32 :=
  let c0_i32_241 : BitVec 32 := 0#32
  let c1_i32 : BitVec 32 := 1#32
  let arg26 : BitVec 32 := Scf.iv c0_i32_241 c1_i32 k0_t1
  let c16_i32 : BitVec 32 := 16#32
  let v3058 : BitVec 32 := Scalar.muli arg26 c16_i32
  v3058
def k0_off1 (k0_t1 : Fin k0_t1_loop.trips) : Fin 2 → Nat :=
  let c0_i32_241 : BitVec 32 := 0#32
  let c1_i32 : BitVec 32 := 1#32
  let arg26 : BitVec 32 := Scf.iv c0_i32_241 c1_i32 k0_t1
  let c16_i32 : BitVec 32 := 16#32
  let v3058 : BitVec 32 := Scalar.muli arg26 c16_i32
  let v3059 : BitVec 32 := v3058
  let v3060 : Index := Scalar.indexCast v3059
  let c0_1029 : Index := 0#32
  ![v3060.toNat, 0]
def k0_mult2 (k0_t1 : Fin k0_t1_loop.trips) : BitVec 32 :=
  let c0_i32_241 : BitVec 32 := 0#32
  let c1_i32 : BitVec 32 := 1#32
  let arg26 : BitVec 32 := Scf.iv c0_i32_241 c1_i32 k0_t1
  let c16_i32 : BitVec 32 := 16#32
  let v3058 : BitVec 32 := Scalar.muli arg26 c16_i32
  let c8_i32_1040 : BitVec 32 := 8#32
  let v3097 : BitVec 32 := Scalar.muli v3058 c8_i32_1040
  v3097
def k0_off2 (k0_t1 : Fin k0_t1_loop.trips) : Fin 2 → Nat :=
  let c0_i32_241 : BitVec 32 := 0#32
  let c1_i32 : BitVec 32 := 1#32
  let arg26 : BitVec 32 := Scf.iv c0_i32_241 c1_i32 k0_t1
  let c16_i32 : BitVec 32 := 16#32
  let v3058 : BitVec 32 := Scalar.muli arg26 c16_i32
  let c8_i32_1040 : BitVec 32 := 8#32
  let v3097 : BitVec 32 := Scalar.muli v3058 c8_i32_1040
  let v3098 : BitVec 32 := v3097
  let v3099 : Index := Scalar.indexCast v3098
  let c0_1041 : Index := 0#32
  ![v3099.toNat, 0]
def k0_mult3 (k0_t1 : Fin k0_t1_loop.trips) : BitVec 32 :=
  let c0_i32_241 : BitVec 32 := 0#32
  let c1_i32 : BitVec 32 := 1#32
  let arg26 : BitVec 32 := Scf.iv c0_i32_241 c1_i32 k0_t1
  let c16_i32 : BitVec 32 := 16#32
  let v3058 : BitVec 32 := Scalar.muli arg26 c16_i32
  v3058
def k0_off3 (k0_t1 : Fin k0_t1_loop.trips) : Fin 2 → Nat :=
  let c0_i32_241 : BitVec 32 := 0#32
  let c1_i32 : BitVec 32 := 1#32
  let arg26 : BitVec 32 := Scf.iv c0_i32_241 c1_i32 k0_t1
  let c16_i32 : BitVec 32 := 16#32
  let v3058 : BitVec 32 := Scalar.muli arg26 c16_i32
  let v3102 : BitVec 32 := v3058
  let v3103 : Index := Scalar.indexCast v3102
  let c0_1042 : Index := 0#32
  ![v3103.toNat, 0]
def k0_mult4 (k0_t1 : Fin k0_t1_loop.trips) : BitVec 32 :=
  let c608_i32 : BitVec 32 := 608#32
  let c0_i32_241 : BitVec 32 := 0#32
  let c1_i32 : BitVec 32 := 1#32
  let arg26 : BitVec 32 := Scf.iv c0_i32_241 c1_i32 k0_t1
  let c16_i32_1054 : BitVec 32 := 16#32
  let v3210 : BitVec 32 := Scalar.muli arg26 c16_i32_1054
  let v3211 : BitVec 32 := Scalar.addi c608_i32 v3210
  v3211
def k0_off4 (k0_t1 : Fin k0_t1_loop.trips) : Fin 2 → Nat :=
  let c608_i32 : BitVec 32 := 608#32
  let c0_i32_241 : BitVec 32 := 0#32
  let c1_i32 : BitVec 32 := 1#32
  let arg26 : BitVec 32 := Scf.iv c0_i32_241 c1_i32 k0_t1
  let c16_i32_1054 : BitVec 32 := 16#32
  let v3210 : BitVec 32 := Scalar.muli arg26 c16_i32_1054
  let v3211 : BitVec 32 := Scalar.addi c608_i32 v3210
  let v3212 : BitVec 32 := v3211
  let v3213 : Index := Scalar.indexCast v3212
  let c0_1055 : Index := 0#32
  ![v3213.toNat, 0]
def k0_mult5 (k0_t1 : Fin k0_t1_loop.trips) : BitVec 32 :=
  let c608_i32 : BitVec 32 := 608#32
  let c0_i32_241 : BitVec 32 := 0#32
  let c1_i32 : BitVec 32 := 1#32
  let arg26 : BitVec 32 := Scf.iv c0_i32_241 c1_i32 k0_t1
  let c16_i32_1054 : BitVec 32 := 16#32
  let v3210 : BitVec 32 := Scalar.muli arg26 c16_i32_1054
  let v3211 : BitVec 32 := Scalar.addi c608_i32 v3210
  let c8_i32_1066 : BitVec 32 := 8#32
  let v3250 : BitVec 32 := Scalar.muli v3211 c8_i32_1066
  v3250
def k0_off5 (k0_t1 : Fin k0_t1_loop.trips) : Fin 2 → Nat :=
  let c608_i32 : BitVec 32 := 608#32
  let c0_i32_241 : BitVec 32 := 0#32
  let c1_i32 : BitVec 32 := 1#32
  let arg26 : BitVec 32 := Scf.iv c0_i32_241 c1_i32 k0_t1
  let c16_i32_1054 : BitVec 32 := 16#32
  let v3210 : BitVec 32 := Scalar.muli arg26 c16_i32_1054
  let v3211 : BitVec 32 := Scalar.addi c608_i32 v3210
  let c8_i32_1066 : BitVec 32 := 8#32
  let v3250 : BitVec 32 := Scalar.muli v3211 c8_i32_1066
  let v3251 : BitVec 32 := v3250
  let v3252 : Index := Scalar.indexCast v3251
  let c0_1067 : Index := 0#32
  ![v3252.toNat, 0]
def k0_mult6 (k0_t1 : Fin k0_t1_loop.trips) : BitVec 32 :=
  let c608_i32 : BitVec 32 := 608#32
  let c0_i32_241 : BitVec 32 := 0#32
  let c1_i32 : BitVec 32 := 1#32
  let arg26 : BitVec 32 := Scf.iv c0_i32_241 c1_i32 k0_t1
  let c16_i32_1054 : BitVec 32 := 16#32
  let v3210 : BitVec 32 := Scalar.muli arg26 c16_i32_1054
  let v3211 : BitVec 32 := Scalar.addi c608_i32 v3210
  v3211
def k0_off6 (k0_t1 : Fin k0_t1_loop.trips) : Fin 2 → Nat :=
  let c608_i32 : BitVec 32 := 608#32
  let c0_i32_241 : BitVec 32 := 0#32
  let c1_i32 : BitVec 32 := 1#32
  let arg26 : BitVec 32 := Scf.iv c0_i32_241 c1_i32 k0_t1
  let c16_i32_1054 : BitVec 32 := 16#32
  let v3210 : BitVec 32 := Scalar.muli arg26 c16_i32_1054
  let v3211 : BitVec 32 := Scalar.addi c608_i32 v3210
  let v3255 : BitVec 32 := v3211
  let v3256 : Index := Scalar.indexCast v3255
  let c0_1068 : Index := 0#32
  ![v3256.toNat, 0]
def k0_off7 (k0_t1 : Fin k0_t1_loop.trips) : Fin 3 → Nat :=
  let c0_i32_241 : BitVec 32 := 0#32
  let c1_i32 : BitVec 32 := 1#32
  let arg26 : BitVec 32 := Scf.iv c0_i32_241 c1_i32 k0_t1
  let v3362 : Index := Scalar.indexCast arg26
  let c0_1080 : Index := 0#32
  let c0_1081 : Index := 0#32
  ![v3362.toNat, 0, 0]
@[reducible] def k0_t2_loop : Scf.Loop 32 :=
  let c0_i32_244 : BitVec 32 := 0#32
  let c38_i32_245 : BitVec 32 := 38#32
  let v1148 : BitVec 32 := Scalar.addi c0_i32_244 c38_i32_245
  let c1_i32_246 : BitVec 32 := 1#32
  ⟨c0_i32_244, v1148, c1_i32_246⟩
def k0_off8 (k0_t2 : Fin k0_t2_loop.trips) : Fin 3 → Nat :=
  let c0_i32_244 : BitVec 32 := 0#32
  let c1_i32_246 : BitVec 32 := 1#32
  let arg26 : BitVec 32 := Scf.iv c0_i32_244 c1_i32_246 k0_t2
  let v3058 : Index := Scalar.indexCast arg26
  let c0_1029 : Index := 0#32
  let c0_1030 : Index := 0#32
  ![v3058.toNat, 0, 0]
abbrev stage0_0 : Fin 1 → Memref sig .tc .vmem S192x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x896 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x112 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1216x896 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x1216 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x9728 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S112x4864 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S38x112 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S38x896 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S192x896 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S192x896 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S192x896 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S192x896 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x192 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S192x896 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S192x4864 .i8 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x192 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== MlpIdeal.lean ====
variable {F : FTy → Type} [FloatOps F] [Named F]
def κ : String → Option EReal := fun
  | "inv_127" => some ((1 / 127 : ℝ) : EReal)
  | "inv_896" => some ((1 / 896 : ℝ) : EReal)
  | _ => none
-- ==== MlpRefIdeal.lean ====
abbrev S192x1x896 : Shape := ⟨3, ![192, 1, 896]⟩
abbrev S192x896 : Shape := ⟨2, ![192, 896]⟩
abbrev S896x112 : Shape := ⟨2, ![896, 112]⟩
abbrev S7x112 : Shape := ⟨2, ![7, 112]⟩
abbrev S7x896 : Shape := ⟨2, ![7, 896]⟩
abbrev S896 : Shape := ⟨1, ![896]⟩
abbrev S896x1216 : Shape := ⟨2, ![896, 1216]⟩
abbrev S7x1216 : Shape := ⟨2, ![7, 1216]⟩
abbrev S7x9728 : Shape := ⟨2, ![7, 9728]⟩
abbrev S4864x112 : Shape := ⟨2, ![4864, 112]⟩
abbrev S38x112 : Shape := ⟨2, ![38, 112]⟩
abbrev S38x896 : Shape := ⟨2, ![38, 896]⟩
abbrev S_ : Shape := ⟨0, ![]⟩
abbrev S192 : Shape := ⟨1, ![192]⟩
abbrev S192x1 : Shape := ⟨2, ![192, 1]⟩
abbrev S1x1x8 : Shape := ⟨3, ![1, 1, 8]⟩
abbrev S896x112x1 : Shape := ⟨3, ![896, 112, 1]⟩
abbrev S896x112x8 : Shape := ⟨3, ![896, 112, 8]⟩
abbrev S7x128x896 : Shape := ⟨3, ![7, 128, 896]⟩
abbrev S7x112x1 : Shape := ⟨3, ![7, 112, 1]⟩
abbrev S7x112x8 : Shape := ⟨3, ![7, 112, 8]⟩
abbrev S7x1x896 : Shape := ⟨3, ![7, 1, 896]⟩
abbrev S896x896 : Shape := ⟨2, ![896, 896]⟩
abbrev S1x896 : Shape := ⟨2, ![1, 896]⟩
abbrev S896x1216x1 : Shape := ⟨3, ![896, 1216, 1]⟩
abbrev S896x1216x8 : Shape := ⟨3, ![896, 1216, 8]⟩
abbrev S7x128x9728 : Shape := ⟨3, ![7, 128, 9728]⟩
abbrev S7x1216x1 : Shape := ⟨3, ![7, 1216, 1]⟩
abbrev S7x1216x8 : Shape := ⟨3, ![7, 1216, 8]⟩
abbrev S7x1x9728 : Shape := ⟨3, ![7, 1, 9728]⟩
abbrev S896x9728 : Shape := ⟨2, ![896, 9728]⟩
abbrev S192x9728 : Shape := ⟨2, ![192, 9728]⟩
abbrev S192x4864 : Shape := ⟨2, ![192, 4864]⟩
abbrev S4864x112x1 : Shape := ⟨3, ![4864, 112, 1]⟩
abbrev S4864x112x8 : Shape := ⟨3, ![4864, 112, 8]⟩
abbrev S38x128x896 : Shape := ⟨3, ![38, 128, 896]⟩
abbrev S38x112x1 : Shape := ⟨3, ![38, 112, 1]⟩
abbrev S38x112x8 : Shape := ⟨3, ![38, 112, 8]⟩
abbrev S38x1x896 : Shape := ⟨3, ![38, 1, 896]⟩
abbrev S4864x896 : Shape := ⟨2, ![4864, 896]⟩
abbrev S1x192 : Shape := ⟨2, ![1, 192]⟩

abbrev nBuf : Space → Nat
  | .hbm => 256
  | .vmem => 6
  | .smem => 0
  | _ => 0

abbrev hbmTy0_0 (i : Nat) : BufTy := match i % 128 with
  | 0 => ⟨S192x1x896, .bf16⟩
  | 1 => ⟨S192x896, .f32⟩
  | 2 => ⟨S896x112, .i32⟩
  | 3 => ⟨S7x112, .i32⟩
  | 4 => ⟨S7x896, .bf16⟩
  | 5 => ⟨S896, .f32⟩
  | 6 => ⟨S896x1216, .i32⟩
  | 7 => ⟨S7x1216, .i32⟩
  | 8 => ⟨S7x9728, .bf16⟩
  | 9 => ⟨S4864x112, .i32⟩
  | 10 => ⟨S38x112, .i32⟩
  | 11 => ⟨S38x896, .bf16⟩
  | 12 => ⟨S192x1x896, .f32⟩
  | 13 => ⟨S192x896, .f32⟩
  | 14 => ⟨S192x896, .f32⟩
  | 15 => ⟨S_, .f32⟩
  | 16 => ⟨S192, .f32⟩
  | 17 => ⟨S_, .f32⟩
  | 18 => ⟨S192, .f32⟩
  | 19 => ⟨S192, .i1⟩
  | 20 => ⟨S_, .f32⟩
  | 21 => ⟨S192, .f32⟩
  | 22 => ⟨S192, .f32⟩
  | 23 => ⟨S_, .f32⟩
  | 24 => ⟨S_, .f32⟩
  | 25 => ⟨S192, .f32⟩
  | 26 => ⟨S192, .f32⟩
  | 27 => ⟨S192x1, .f32⟩
  | 28 => ⟨S192x896, .f32⟩
  | 29 => ⟨S192x896, .f32⟩
  | 30 => ⟨S192x896, .f32⟩
  | 31 => ⟨S_, .f32⟩
  | 32 => ⟨S_, .f32⟩
  | 33 => ⟨S_, .f32⟩
  | 34 => ⟨S192x896, .f32⟩
  | 35 => ⟨S192x896, .f32⟩
  | 36 => ⟨S_, .f32⟩
  | 37 => ⟨S192x896, .f32⟩
  | 38 => ⟨S192x896, .f32⟩
  | 39 => ⟨S192x896, .bf16⟩
  | 40 => ⟨S1x1x8, .i32⟩
  | 41 => ⟨S_, .i32⟩
  | 42 => ⟨S1x1x8, .i32⟩
  | 43 => ⟨S1x1x8, .i32⟩
  | 44 => ⟨S_, .i32⟩
  | 45 => ⟨S1x1x8, .i32⟩
  | 46 => ⟨S1x1x8, .i32⟩
  | 47 => ⟨S_, .i32⟩
  | 48 => ⟨S1x1x8, .i32⟩
  | 49 => ⟨S1x1x8, .i32⟩
  | 50 => ⟨S_, .i32⟩
  | 51 => ⟨S1x1x8, .i32⟩
  | 52 => ⟨S1x1x8, .i32⟩
  | 53 => ⟨S1x1x8, .i32⟩
  | 54 => ⟨S896x112x1, .i32⟩
  | 55 => ⟨S896x112x8, .i32⟩
  | 56 => ⟨S896x112x8, .i32⟩
  | 57 => ⟨S896x112x8, .i32⟩
  | 58 => ⟨S_, .i32⟩
  | 59 => ⟨S896x112x8, .i32⟩
  | 60 => ⟨S896x112x8, .i32⟩
  | 61 => ⟨S896x112x8, .bf16⟩
  | 62 => ⟨S7x128x896, .bf16⟩
  | 63 => ⟨S7x112x1, .i32⟩
  | 64 => ⟨S7x112x8, .i32⟩
  | 65 => ⟨S7x112x8, .i32⟩
  | 66 => ⟨S7x112x8, .i32⟩
  | 67 => ⟨S_, .i32⟩
  | 68 => ⟨S7x112x8, .i32⟩
  | 69 => ⟨S7x112x8, .i32⟩
  | 70 => ⟨S7x112x8, .bf16⟩
  | 71 => ⟨S7x1x896, .bf16⟩
  | 72 => ⟨S7x128x896, .bf16⟩
  | 73 => ⟨S7x128x896, .bf16⟩
  | 74 => ⟨S7x1x896, .bf16⟩
  | 75 => ⟨S7x128x896, .bf16⟩
  | 76 => ⟨S7x128x896, .bf16⟩
  | 77 => ⟨S896x896, .bf16⟩
  | 78 => ⟨S192x896, .f32⟩
  | 79 => ⟨S192x1, .f32⟩
  | 80 => ⟨S192x896, .f32⟩
  | 81 => ⟨S192x896, .f32⟩
  | 82 => ⟨S192x896, .f32⟩
  | 83 => ⟨S192x896, .f32⟩
  | 84 => ⟨S_, .f32⟩
  | 85 => ⟨S192, .f32⟩
  | 86 => ⟨S192x1, .f32⟩
  | 87 => ⟨S_, .f32⟩
  | 88 => ⟨S192x1, .f32⟩
  | 89 => ⟨S192x1, .f32⟩
  | 90 => ⟨S_, .f32⟩
  | 91 => ⟨S192x1, .f32⟩
  | 92 => ⟨S192x1, .f32⟩
  | 93 => ⟨S192x1, .f32⟩
  | 94 => ⟨S192x896, .f32⟩
  | 95 => ⟨S192x896, .f32⟩
  | 96 => ⟨S1x896, .f32⟩
  | 97 => ⟨S192x896, .f32⟩
  | 98 => ⟨S192x896, .f32⟩
  | 99 => ⟨S192x896, .f32⟩
  | 100 => ⟨S_, .f32⟩
  | 101 => ⟨S192, .f32⟩
  | 102 => ⟨S_, .f32⟩
  | 103 => ⟨S192, .f32⟩
  | 104 => ⟨S192, .i1⟩
  | 105 => ⟨S_, .f32⟩
  | 106 => ⟨S192, .f32⟩
  | 107 => ⟨S192, .f32⟩
  | 108 => ⟨S_, .f32⟩
  | 109 => ⟨S_, .f32⟩
  | 110 => ⟨S192, .f32⟩
  | 111 => ⟨S192, .f32⟩
  | 112 => ⟨S192x1, .f32⟩
  | 113 => ⟨S192x896, .f32⟩
  | 114 => ⟨S192x896, .f32⟩
  | 115 => ⟨S192x896, .f32⟩
  | 116 => ⟨S_, .f32⟩
  | 117 => ⟨S_, .f32⟩
  | 118 => ⟨S_, .f32⟩
  | 119 => ⟨S192x896, .f32⟩
  | 120 => ⟨S192x896, .f32⟩
  | 121 => ⟨S_, .f32⟩
  | 122 => ⟨S192x896, .f32⟩
  | 123 => ⟨S192x896, .f32⟩
  | 124 => ⟨S192x896, .bf16⟩
  | 125 => ⟨S1x1x8, .i32⟩
  | 126 => ⟨S_, .i32⟩
  | 127 => ⟨S1x1x8, .i32⟩
  | _ => ⟨S192x1x896, .bf16⟩

abbrev hbmTy0_1 (i : Nat) : BufTy := match i % 128 with
  | 0 => ⟨S1x1x8, .i32⟩
  | 1 => ⟨S_, .i32⟩
  | 2 => ⟨S1x1x8, .i32⟩
  | 3 => ⟨S1x1x8, .i32⟩
  | 4 => ⟨S_, .i32⟩
  | 5 => ⟨S1x1x8, .i32⟩
  | 6 => ⟨S1x1x8, .i32⟩
  | 7 => ⟨S_, .i32⟩
  | 8 => ⟨S1x1x8, .i32⟩
  | 9 => ⟨S1x1x8, .i32⟩
  | 10 => ⟨S1x1x8, .i32⟩
  | 11 => ⟨S896x1216x1, .i32⟩
  | 12 => ⟨S896x1216x8, .i32⟩
  | 13 => ⟨S896x1216x8, .i32⟩
  | 14 => ⟨S896x1216x8, .i32⟩
  | 15 => ⟨S_, .i32⟩
  | 16 => ⟨S896x1216x8, .i32⟩
  | 17 => ⟨S896x1216x8, .i32⟩
  | 18 => ⟨S896x1216x8, .bf16⟩
  | 19 => ⟨S7x128x9728, .bf16⟩
  | 20 => ⟨S7x1216x1, .i32⟩
  | 21 => ⟨S7x1216x8, .i32⟩
  | 22 => ⟨S7x1216x8, .i32⟩
  | 23 => ⟨S7x1216x8, .i32⟩
  | 24 => ⟨S_, .i32⟩
  | 25 => ⟨S7x1216x8, .i32⟩
  | 26 => ⟨S7x1216x8, .i32⟩
  | 27 => ⟨S7x1216x8, .bf16⟩
  | 28 => ⟨S7x1x9728, .bf16⟩
  | 29 => ⟨S7x128x9728, .bf16⟩
  | 30 => ⟨S7x128x9728, .bf16⟩
  | 31 => ⟨S7x1x9728, .bf16⟩
  | 32 => ⟨S7x128x9728, .bf16⟩
  | 33 => ⟨S7x128x9728, .bf16⟩
  | 34 => ⟨S896x9728, .bf16⟩
  | 35 => ⟨S192x9728, .f32⟩
  | 36 => ⟨S192x1, .f32⟩
  | 37 => ⟨S192x9728, .f32⟩
  | 38 => ⟨S192x9728, .f32⟩
  | 39 => ⟨S192x4864, .f32⟩
  | 40 => ⟨S192x4864, .f32⟩
  | 41 => ⟨S192x4864, .f32⟩
  | 42 => ⟨S_, .f32⟩
  | 43 => ⟨S192x4864, .f32⟩
  | 44 => ⟨S192x4864, .f32⟩
  | 45 => ⟨S_, .f32⟩
  | 46 => ⟨S192x4864, .f32⟩
  | 47 => ⟨S192x4864, .f32⟩
  | 48 => ⟨S192x4864, .f32⟩
  | 49 => ⟨S192x4864, .f32⟩
  | 50 => ⟨S192x4864, .f32⟩
  | 51 => ⟨S192x4864, .f32⟩
  | 52 => ⟨S_, .f32⟩
  | 53 => ⟨S192, .f32⟩
  | 54 => ⟨S_, .f32⟩
  | 55 => ⟨S192, .f32⟩
  | 56 => ⟨S192, .i1⟩
  | 57 => ⟨S_, .f32⟩
  | 58 => ⟨S192, .f32⟩
  | 59 => ⟨S192, .f32⟩
  | 60 => ⟨S_, .f32⟩
  | 61 => ⟨S_, .f32⟩
  | 62 => ⟨S192, .f32⟩
  | 63 => ⟨S192, .f32⟩
  | 64 => ⟨S192x1, .f32⟩
  | 65 => ⟨S192x4864, .f32⟩
  | 66 => ⟨S192x4864, .f32⟩
  | 67 => ⟨S192x4864, .f32⟩
  | 68 => ⟨S_, .f32⟩
  | 69 => ⟨S_, .f32⟩
  | 70 => ⟨S_, .f32⟩
  | 71 => ⟨S192x4864, .f32⟩
  | 72 => ⟨S192x4864, .f32⟩
  | 73 => ⟨S_, .f32⟩
  | 74 => ⟨S192x4864, .f32⟩
  | 75 => ⟨S192x4864, .f32⟩
  | 76 => ⟨S192x4864, .bf16⟩
  | 77 => ⟨S1x1x8, .i32⟩
  | 78 => ⟨S_, .i32⟩
  | 79 => ⟨S1x1x8, .i32⟩
  | 80 => ⟨S1x1x8, .i32⟩
  | 81 => ⟨S_, .i32⟩
  | 82 => ⟨S1x1x8, .i32⟩
  | 83 => ⟨S1x1x8, .i32⟩
  | 84 => ⟨S_, .i32⟩
  | 85 => ⟨S1x1x8, .i32⟩
  | 86 => ⟨S1x1x8, .i32⟩
  | 87 => ⟨S_, .i32⟩
  | 88 => ⟨S1x1x8, .i32⟩
  | 89 => ⟨S1x1x8, .i32⟩
  | 90 => ⟨S1x1x8, .i32⟩
  | 91 => ⟨S4864x112x1, .i32⟩
  | 92 => ⟨S4864x112x8, .i32⟩
  | 93 => ⟨S4864x112x8, .i32⟩
  | 94 => ⟨S4864x112x8, .i32⟩
  | 95 => ⟨S_, .i32⟩
  | 96 => ⟨S4864x112x8, .i32⟩
  | 97 => ⟨S4864x112x8, .i32⟩
  | 98 => ⟨S4864x112x8, .bf16⟩
  | 99 => ⟨S38x128x896, .bf16⟩
  | 100 => ⟨S38x112x1, .i32⟩
  | 101 => ⟨S38x112x8, .i32⟩
  | 102 => ⟨S38x112x8, .i32⟩
  | 103 => ⟨S38x112x8, .i32⟩
  | 104 => ⟨S_, .i32⟩
  | 105 => ⟨S38x112x8, .i32⟩
  | 106 => ⟨S38x112x8, .i32⟩
  | 107 => ⟨S38x112x8, .bf16⟩
  | 108 => ⟨S38x1x896, .bf16⟩
  | 109 => ⟨S38x128x896, .bf16⟩
  | 110 => ⟨S38x128x896, .bf16⟩
  | 111 => ⟨S38x1x896, .bf16⟩
  | 112 => ⟨S38x128x896, .bf16⟩
  | 113 => ⟨S38x128x896, .bf16⟩
  | 114 => ⟨S4864x896, .bf16⟩
  | 115 => ⟨S192x896, .f32⟩
  | 116 => ⟨S192x1, .f32⟩
  | 117 => ⟨S192x896, .f32⟩
  | 118 => ⟨S192x896, .f32⟩
  | 119 => ⟨S192x896, .f32⟩
  | 120 => ⟨S192x896, .bf16⟩
  | 121 => ⟨S192x896, .bf16⟩
  | 122 => ⟨S1x192, .f32⟩
  | 123 => ⟨S1x192, .f32⟩
  | 124 => ⟨S1x192, .f32⟩
  | 125 => ⟨S192x896, .i8⟩
  | 126 => ⟨S192x896, .i8⟩
  | 127 => ⟨S192x4864, .i8⟩
  | _ => ⟨S192x1x896, .bf16⟩

abbrev hbmTy (i : Nat) : BufTy := match i / 128 with
  | 0 => hbmTy0_0 i
  | 1 => hbmTy0_1 i
  | _ => ⟨S192x1x896, .bf16⟩

abbrev bufTy : (tb : Table) → Fin (tcTables nBuf tb) → BufTy
  | .hbm, ⟨i, _⟩ => hbmTy i
  | .local _ .vmem, ⟨0, _⟩ => ⟨S192x896, .f32⟩
  | .local _ .vmem, ⟨1, _⟩ => ⟨S192x896, .f32⟩
  | .local _ .vmem, ⟨2, _⟩ => ⟨S192x4864, .f32⟩
  | .local _ .vmem, ⟨3, _⟩ => ⟨S192x896, .i8⟩
  | .local _ .vmem, ⟨4, _⟩ => ⟨S192x896, .i8⟩
  | .local _ .vmem, ⟨5, _⟩ => ⟨S192x4864, .i8⟩
  | _, _ => ⟨S192x1x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_5 : Ref sig .tc := ⟨.hbm, 44, rfl⟩
abbrev main_v18 : Ref sig .tc := ⟨.hbm, 45, rfl⟩
abbrev main_v19 : Ref sig .tc := ⟨.hbm, 46, rfl⟩
abbrev main_c_6 : Ref sig .tc := ⟨.hbm, 47, rfl⟩
abbrev main_v20 : Ref sig .tc := ⟨.hbm, 48, rfl⟩
abbrev main_v21 : Ref sig .tc := ⟨.hbm, 49, rfl⟩
abbrev main_c_7 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_8 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_cst_15 : Ref sig .tc := ⟨.hbm, 105, rfl⟩
abbrev main_v69 : Ref sig .tc := ⟨.hbm, 106, rfl⟩
abbrev main_v70 : Ref sig .tc := ⟨.hbm, 107, rfl⟩
abbrev main_cst_16 : Ref sig .tc := ⟨.hbm, 108, rfl⟩
abbrev main_call3_v0 : Ref sig .tc := ⟨.hbm, 109, rfl⟩
abbrev main_call3_v1 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_17 : Ref sig .tc := ⟨.hbm, 116, rfl⟩
abbrev main_cst_18 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_19 : Ref sig .tc := ⟨.hbm, 126, rfl⟩
abbrev main_v79 : Ref sig .tc := ⟨.hbm, 127, rfl⟩
abbrev main_v80 : Ref sig .tc := ⟨.hbm, 128, rfl⟩
abbrev main_c_20 : Ref sig .tc := ⟨.hbm, 129, rfl⟩
abbrev main_v81 : Ref sig .tc := ⟨.hbm, 130, rfl⟩
abbrev main_v82 : Ref sig .tc := ⟨.hbm, 131, rfl⟩
abbrev main_c_21 : Ref sig .tc := ⟨.hbm, 132, rfl⟩
abbrev main_v83 : Ref sig .tc := ⟨.hbm, 133, rfl⟩
abbrev main_v84 : Ref sig .tc := ⟨.hbm, 134, rfl⟩
abbrev main_c_22 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_c_23 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_c_24 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_call6_v0 : Ref sig .tc := ⟨.hbm, 168, rfl⟩
abbrev main_call6_v1 : Ref sig .tc := ⟨.hbm, 169, rfl⟩
abbrev main_call6_cst : Ref sig .tc := ⟨.hbm, 170, rfl⟩
abbrev main_call6_v2 : Ref sig .tc := ⟨.hbm, 171, rfl⟩
abbrev main_call6_v3 : Ref sig .tc := ⟨.hbm, 172, rfl⟩
abbrev main_call6_cst_0 : Ref sig .tc := ⟨.hbm, 173, rfl⟩
abbrev main_call6_v4 : Ref sig .tc := ⟨.hbm, 174, rfl⟩
abbrev main_call6_v5 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_cst_25 : Ref sig .tc := ⟨.hbm, 180, rfl⟩
abbrev main_v119 : Ref sig .tc := ⟨.hbm, 181, rfl⟩
abbrev main_cst_26 : Ref sig .tc := ⟨.hbm, 182, rfl⟩
abbrev main_v120 : Ref sig .tc := ⟨.hbm, 183, rfl⟩
abbrev main_v121 : Ref sig .tc := ⟨.hbm, 184, rfl⟩
abbrev main_cst_27 : Ref sig .tc := ⟨.hbm, 185, rfl⟩
abbrev main_v122 : Ref sig .tc := ⟨.hbm, 186, rfl⟩
abbrev main_v123 : Ref sig .tc := ⟨.hbm, 187, rfl⟩
abbrev main_cst_28 : Ref sig .tc := ⟨.hbm, 188, rfl⟩
abbrev main_call7_v0 : Ref sig .tc := ⟨.hbm, 189, rfl⟩
abbrev main_call7_v1 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_cst_29 : Ref sig .tc := ⟨.hbm, 196, rfl⟩
abbrev main_cst_30 : Ref sig .tc := ⟨.hbm, 197, rfl⟩
abbrev main_call9_v0 : Ref sig .tc := ⟨.hbm, 198, rfl⟩
abbrev main_call9_v1 : Ref sig .tc := ⟨.hbm, 199, rfl⟩
abbrev main_call9_v2 : Ref sig .tc := ⟨.hbm, 200, rfl⟩
abbrev main_call9_v3 : Ref sig .tc := ⟨.hbm, 201, rfl⟩
abbrev main_call9_v4 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_c_31 : Ref sig .tc := ⟨.hbm, 206, rfl⟩
abbrev main_v132 : Ref sig .tc := ⟨.hbm, 207, rfl⟩
abbrev main_v133 : Ref sig .tc := ⟨.hbm, 208, rfl⟩
abbrev main_c_32 : Ref sig .tc := ⟨.hbm, 209, rfl⟩
abbrev main_v134 : Ref sig .tc := ⟨.hbm, 210, rfl⟩
abbrev main_v135 : Ref sig .tc := ⟨.hbm, 211, rfl⟩
abbrev main_c_33 : Ref sig .tc := ⟨.hbm, 212, rfl⟩
abbrev main_v136 : Ref sig .tc := ⟨.hbm, 213, rfl⟩
abbrev main_v137 : Ref sig .tc := ⟨.hbm, 214, rfl⟩
abbrev main_c_34 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_c_35 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_c_36 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173_0 : Ref sig .tc := ⟨.hbm, 253, rfl⟩
abbrev main_v173_1 : Ref sig .tc := ⟨.hbm, 254, rfl⟩
abbrev main_v173_2 : Ref sig .tc := ⟨.hbm, 255, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S192x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x4864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x896 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x896 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x4864 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Run.lean ====
/- The run of the kernel's body, for any inputs: what its stores leave in each output, as pieces (last first).
   The body is printed as parts of parts, so `k0_part78` is replaced by its skeleton before the parts in it are. -/
module

public import proofs.«01_k».proof.Proof.Gen.Mlp.Frame.Runs

@[expose] public section

-- membership in a rectangle of production extents (`View.cover_of_tiled`): the elaborator's structural look
-- recurses once per coordinate of the long axes
set_option maxRecDepth 16384

noncomputable section

namespace Cert.Mlp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 0 in
/-- The body's triple: on whole staging memrefs — the inputs' at their contents,
    the FORGOTTEN outputs' (12, 13, 14, 15, 16, 17, 18, 19, 20) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_mlp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_mlp_eq_skeleton]; unfold cc0_mlp_skel
    simp only [k0_part78_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold k0_part78_skel
    simp only [k0_part78_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Mlp.Gen

end
-- ==== Proof.Frame.lean ====
/- The frame of the kernel at any arithmetic, over the run of its body in Run.lean: the grid's one point, the launch,
   and that the arguments come back as they were given. What the outputs hold is not named here. -/
module

public import proofs.«01_k».proof.Proof.Run
public import Idealize.ShloMosaic.Lib.Claim

@[expose] public section

-- membership in a rectangle of production extents (`View.cover_of_tiled`): the elaborator's structural look
-- recurses once per coordinate of the long axes
set_option maxRecDepth 16384

noncomputable section

namespace Cert.Mlp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (12, 13, 14, 15, 16, 17, 18, 19, 20): nothing reads what the kernel leaves in them, so nothing
    of it is named (Lib/Pipeline/Dat.lean `Dat.toRForget`). -/
def forgets0 : Fin 21 → Bool := fun w => w.val == 12 || w.val == 13 || w.val == 14 || w.val == 15 || w.val == 16 || w.val == 17 || w.val == 18 || w.val == 19 || w.val == 20

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 12, 13, 14, 15, 16, 17, 18, 19, 20) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1260000 in
/-- The arguments after a run whose inputs are known and whose outputs are not named: each is as it was given. -/
theorem kept_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (Pipeline.mem_restRefs_of main_arg9 (by decide) (by decide))).trans (V_main_arg9 m c),
      (Pipeline.RDat.FramePost.arr_in h c 10 rfl).trans ((hA c 10).trans (V_main_arg10 m c)),
      (Pipeline.RDat.FramePost.arr_in h c 11 rfl).trans ((hA c 11).trans (V_main_arg11 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  kept_of m ρ (fun c => (dats m 0 c).toRForget forgets0) (A_eq m) (run_main m ρ)

/-- THE FRAME: `Cert.quiescent_Mlp`'s statement (Defs.lean) at any `F` — Proof.lean cites it at `Bits`:
    `theorem Cert.Proof.claim : Cert.Claim := ⟨Cert.Mlp.Gen.facts, fun m ρ _ => Cert.Mlp.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Mlp.Gen

end
-- ==== Proof.Exit.lean ====
/- What the gate and up loop leaves in its scratch: one array, whatever the scratch held. -/
module

public import proofs.«01_k».proof.Proof.Gen.MlpIdeal.Loops
public import Idealize.ShloMosaic.Lib.Pipeline.ValueKit

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Pieces that are blocks of one array and cover it leave that array in a whole buffer, whatever the buffer held. -/
theorem writes_eq_fill {sig : RefSig} {Val : EltTy → Type} [∀ e, Nonempty (Val e)] {κ : Kind} {sp : Space} {s : Shape} {e : EltTy}
    {m : Memref sig κ sp s e} (hw : m.IsWhole) (f : m.view.ty.Contents Val) (L : List (View.Piece Val s e)) (G : s.Idx → Val e)
    (h : ∀ p ∈ L, ∀ x : p.1.shape.Idx, p.2 x = G (p.1.emb x)) (hc : ∀ y, ∃ p ∈ L, y ∈ p.1.set)
    {off : Fin s.rank → ℕ} (hoff : off = fun _ => 0) (inb : ∀ a, off a + s.size a ≤ s.size a) :
    m.view.writes Val f L = m.view.writes Val m.view.junk [⟨Rect.unit off s.size inb, G⟩] := by
  obtain ⟨b, rfl, rfl, rfl, h'⟩ := hw; cases h'
  funext y
  have e1 := View.read_writes_apply_eq_canon (View.whole b) f y L (hc y)
  rw [View.canon_apply_of_pieces G L h y (hc y)] at e1
  have e2 := View.read_writes_junk_eq_canon (View.whole b) [⟨Rect.unit off _ inb, G⟩]
  rw [View.canon_unit_zero hoff] at e2
  exact e1.trans (congrFun e2 y).symm

/-- The array the loop fills: slab `k` is trip `k`'s block. -/
def guArr (arg6 : Memref sig .tc .vmem S1216x896 .i32) (arg23 : Memref sig .tc .vmem S1216x8 .i32) (arg24 : Memref sig .tc .vmem S9728x8 .f32) (v1118 : FVec F S192x1 .f32) (v1121 : FVec F S192x896 .f32) (cst_225 : F .f32) (X_arg6 : BufTy.Contents (Elt F) arg6.view.ty) (X_arg23 : BufTy.Contents (Elt F) arg23.view.ty) (X_arg24 : BufTy.Contents (Elt F) arg24.view.ty) : Vec F S38x192x128 .f32 :=
  fun y => k0_pay105 (trip_k0_t1.sl.v3361 arg6 arg23 arg24 v1118 v1121 cst_225 X_arg6 X_arg23 X_arg24 ⟨(y 0).val, (y 0).isLt⟩) (ix3 0 ⟨(y 1).val, (y 1).isLt⟩ ⟨(y 2).val, (y 2).isLt⟩)

/-- Each trip stores its one slab. -/
theorem tripL_eq (𝒱 : Variants) (c : Dev nD) (bd : Option 𝒱.V) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole) (v1118 : FVec F S192x1 .f32) (v1121 : FVec F S192x896 .f32) (cst_225 : F .f32) (X_arg6 : BufTy.Contents (Elt F) arg6.view.ty) (X_arg23 : BufTy.Contents (Elt F) arg23.view.ty) (X_arg24 : BufTy.Contents (Elt F) arg24.view.ty) (k : Fin k0_t1_loop.trips) :
    tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 k = [⟨Rect.unit (s := S38x192x128) (k0_off7 k) S1x192x128.size (k0_off7_inb k), k0_pay105 (trip_k0_t1.sl.v3361 arg6 arg23 arg24 v1118 v1121 cst_225 X_arg6 X_arg23 X_arg24 k)⟩] := by
  unfold tripL_k0_t1 trip_k0_t1
  rfl

/-- The loop's trips. -/
theorem t1_trips : k0_t1_loop.trips = 38 := by decide +kernel

/-- The trips' pieces are blocks of the array, and those before trip `n` cover its first `n` slabs. -/
theorem pb_guArr (𝒱 : Variants) (c : Dev nD) (bd : Option 𝒱.V) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole) (v1118 : FVec F S192x1 .f32) (v1121 : FVec F S192x896 .f32) (cst_225 : F .f32) (X_arg6 : BufTy.Contents (Elt F) arg6.view.ty) (X_arg23 : BufTy.Contents (Elt F) arg23.view.ty) (X_arg24 : BufTy.Contents (Elt F) arg24.view.ty) : ∀ n : ℕ, n ≤ 38 →
    (∀ p ∈ pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 n, ∀ x : p.1.shape.Idx, p.2 x = guArr arg6 arg23 arg24 v1118 v1121 cst_225 X_arg6 X_arg23 X_arg24 (p.1.emb x)) ∧
    ∀ y : S38x192x128.Idx, (y 0).val < n → ∃ p ∈ pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 n, y ∈ p.1.set
  | 0, _ => ⟨fun p hp => absurd hp List.not_mem_nil, fun y hy => absurd hy (Nat.not_lt_zero _)⟩
  | n + 1, hn => by
    have ih := pb_guArr 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 n (Nat.le_of_succ_le hn)
    have hk : n < k0_t1_loop.trips := by rw [t1_trips]; exact hn
    have e := pb_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 ⟨n, hk⟩
    rw [tripL_eq] at e
    dsimp only at e
    rw [e]
    refine ⟨fun p hp x => ?_, fun y hy => ?_⟩
    · rcases List.mem_append.mp hp with hp | hp
      · obtain rfl := List.mem_singleton.mp hp
        have hx : (x 0).val < 1 := (x 0).isLt
        have e0 : ((Rect.unit (s := S38x192x128) (k0_off7 ⟨n, hk⟩) S1x192x128.size (k0_off7_inb ⟨n, hk⟩)).emb x 0).val = n := by
          refine (ValueKit.rect_emb_unit_val ..).trans ?_; have h := congrFun (k0_off7_eq ⟨n, hk⟩) 0; have h' : (![n, 0, 0] : Fin 3 → Nat) 0 = n := rfl; exact (congrArg (· + (x 0).val) (h.trans h')).trans (by show n + (x 0).val = n; omega)
        have e1 : ((Rect.unit (s := S38x192x128) (k0_off7 ⟨n, hk⟩) S1x192x128.size (k0_off7_inb ⟨n, hk⟩)).emb x 1).val = (x 1).val := by
          refine (ValueKit.rect_emb_unit_val ..).trans ?_; have h := congrFun (k0_off7_eq ⟨n, hk⟩) 1; have h' : (![n, 0, 0] : Fin 3 → Nat) 1 = 0 := rfl; exact (congrArg (· + (x 1).val) (h.trans h')).trans (by show 0 + (x 1).val = (x 1).val; omega)
        have e2 : ((Rect.unit (s := S38x192x128) (k0_off7 ⟨n, hk⟩) S1x192x128.size (k0_off7_inb ⟨n, hk⟩)).emb x 2).val = (x 2).val := by
          refine (ValueKit.rect_emb_unit_val ..).trans ?_; have h := congrFun (k0_off7_eq ⟨n, hk⟩) 2; have h' : (![n, 0, 0] : Fin 3 → Nat) 2 = 0 := rfl; exact (congrArg (· + (x 2).val) (h.trans h')).trans (by show 0 + (x 2).val = (x 2).val; omega)
        unfold guArr
        simp only [e0, e1, e2]
        congr 1
        funext a
        fin_cases a
        · exact Fin.ext (by show (x 0).val = 0; omega)
        · rfl
        · rfl
      · exact ih.1 p hp x
    · by_cases h : (y 0).val < n
      · obtain ⟨p, hp, hy⟩ := ih.2 y h
        exact ⟨p, List.mem_append_right _ hp, hy⟩
      · refine ⟨_, List.mem_append_left _ (List.mem_singleton_self _), ?_⟩
        have hy0 : (y 0).val = n := by omega
        refine (Rect.mem_set_unit (s := S38x192x128) (off := k0_off7 ⟨n, hk⟩) (size := S1x192x128.size) (inb := k0_off7_inb ⟨n, hk⟩)).mpr fun a => ?_
        rw [k0_off7_eq]
        fin_cases a
        · show n ≤ (y 0).val ∧ (y 0).val < n + 1; omega
        · show 0 ≤ (y 1).val ∧ (y 1).val < 0 + 192; exact ⟨Nat.zero_le _, by have : (y 1).val < 192 := (y 1).isLt; omega⟩
        · show 0 ≤ (y 2).val ∧ (y 2).val < 0 + 128; exact ⟨Nat.zero_le _, by have : (y 2).val < 128 := (y 2).isLt; omega⟩

set_option warn.classDefReducibility false in
/-- After the loop its scratch holds the array. -/
@[instance] def loopExit_k0_t1 (E : Set ℕ) (𝒱 : Variants) (c : Dev nD) (bd : Option 𝒱.V) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole) (v1118 : FVec F S192x1 .f32) (v1121 : FVec F S192x896 .f32) (cst_225 : F .f32) (X_arg6 : BufTy.Contents (Elt F) arg6.view.ty) (X_arg23 : BufTy.Contents (Elt F) arg23.view.ty) (X_arg24 : BufTy.Contents (Elt F) arg24.view.ty) (G_arg22 : BufTy.Contents (Elt F) arg22.view.ty) :
    LoopExit (loopInv_k0_t1 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 G_arg22) where
  post _ := iprop((arg6.view.loc (c : Thread nD τ) ↦[arg6.view.set]{fullShare} X_arg6) ∗ (arg23.view.loc (c : Thread nD τ) ↦[arg23.view.set]{fullShare} X_arg23) ∗ (arg24.view.loc (c : Thread nD τ) ↦[arg24.view.set]{fullShare} X_arg24) ∗ (arg22.view.loc (c : Thread nD τ) ↦[arg22.view.set]{fullShare} arg22.view.writes (Elt F) arg22.view.junk [⟨Rect.unit (s := S38x192x128) ![0, 0, 0] S38x192x128.size (by decide), guArr arg6 arg23 arg24 v1118 v1121 cst_225 X_arg6 X_arg23 X_arg24⟩]))
  exit _ := by
    show inv_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 G_arg22 38 _ ⊢ _
    iintro ⟨H6, H23, H24, ⟨%f, H22, %hf⟩⟩
    subst hf
    isplitl [H6]; · iexact H6
    isplitl [H23]; · iexact H23
    isplitl [H24]; · iexact H24
    have h := pb_guArr (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 38 le_rfl
    rw [← writes_eq_fill harg22 G_arg22 _ _ h.1 (fun y => h.2 y (y 0).isLt) (by decide) (by decide)]
    iexact H22

end Cert.MlpIdeal.Gen
end
-- ==== Proof.RunIdeal.lean ====
/- The run of the kernel's body, for any inputs: what its stores leave in each output, as pieces (last first).
   The body is printed as parts of parts, so `k0_part78` is replaced by its skeleton before the parts in it are. -/
module

public import proofs.«01_k».proof.Proof.Exit
public import proofs.«01_k».proof.Proof.Gen.MlpIdeal.Frame.Runs

@[expose] public section

-- membership in a rectangle of production extents (`View.cover_of_tiled`): the elaborator's structural look
-- recurses once per coordinate of the long axes
set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 0 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) :
    Σ' (L12 : List (View.Piece (Elt F) S192x896 .bf16)), Σ' (L13 : List (View.Piece (Elt F) S192x896 .f32)), Σ' (L14 : List (View.Piece (Elt F) S192x896 .bf16)), Σ' (L15 : List (View.Piece (Elt F) S192x896 .i8)), Σ' (L16 : List (View.Piece (Elt F) S1x192 .f32)), Σ' (L17 : List (View.Piece (Elt F) S192x896 .i8)), Σ' (L18 : List (View.Piece (Elt F) S1x192 .f32)), Σ' (L19 : List (View.Piece (Elt F) S192x4864 .i8)), { L20 : List (View.Piece (Elt F) S1x192 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_mlp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, fun E K => ?run⟩
  case run =>
    simp only [cc0_mlp_eq_skeleton]; unfold cc0_mlp_skel
    simp only [k0_part78_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold k0_part78_skel
    simp only [k0_part78_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    have hrd0 : ∀ (𝒱 : Variants) (c : Dev nD) (bd : Option 𝒱.V) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole) (v1118 : FVec F S192x1 .f32) (v1121 : FVec F S192x896 .f32) (cst_225 : F .f32) (X_arg6 : BufTy.Contents (Elt F) arg6.view.ty) (X_arg23 : BufTy.Contents (Elt F) arg23.view.ty) (X_arg24 : BufTy.Contents (Elt F) arg24.view.ty) (hrdF : BufTy.Contents (Elt F) arg22.view.ty) (hrdB : LoadRect S38x192x128), arg22.view.readAt (Elt F) hrdB (arg22.view.writes (Elt F) hrdF (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 (Scf.trips k0_t1_loop.lb k0_t1_loop.ub k0_t1_loop.st))) = arg22.view.readCov (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 (Scf.trips k0_t1_loop.lb k0_t1_loop.ub k0_t1_loop.st)) hrdB := fun 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 hrdF hrdB => View.readAt_writes_of_cover _ hrdF _ hrdB (fun hrdJ => View.cover_of_tiledL (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1118 v1121 cst_225 X_arg6 X_arg23 X_arg24 (Scf.trips k0_t1_loop.lb k0_t1_loop.ub k0_t1_loop.st)) S1x192x128.size (by sl_kernel_rfl) (hrdB.idx hrdJ))
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HL0]
    · iexists _; isplitr; · ipureintro; exact harg6.read_unread _
      iexact HL0
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]
    · iexists _, _; isplitr; swap; · iexact HS0
      ipureintro; rfl
    isplitl [HL3]
    · iexists _, _; isplitr; swap; · iexact HL3
      ipureintro; rfl
    isplitl [HL1]
    · iexists _, _; isplitr; swap; · iexact HL1
      ipureintro; rfl
    isplitl [HL2]
    · iexists _, _; isplitr; swap; · iexact HL2
      ipureintro; rfl
    iexists _, _; isplitr; swap; · iexact HS4
    ipureintro; rfl

end Cert.MlpIdeal.Gen

end
-- ==== Proof.FrameIdeal.lean ====
/- The frame of the kernel over named constants, over the run of its body in RunIdeal.lean: the pieces that each output ends
   with cover its block, the grid's one point, the launch, and that the arguments come back as they were given. -/
module

public import proofs.«01_k».proof.Proof.RunIdeal
public import Idealize.ShloMosaic.Lib.Claim

@[expose] public section

-- membership in a rectangle of production extents (`View.cover_of_tiled`): the elaborator's structural look
-- recurses once per coordinate of the long axes
set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 12 tile its block (1 store of `S192x896`, checked by the kernel's evaluation: Lib/Ring.lean `Piece.tiledL`, linear in the pieces, through a loop's `@[irreducible]` trip theorem too), so they cover it. -/
theorem cover0_A_12 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) (y : S192x896.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).1 S192x896.size (by sl_kernel_rfl) y

/-- What the run leaves in output 12's staging buffer: its pieces read back over junk. -/
def out0_A_12 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) : Vec F S192x896 .bf16 :=
  VO0_12.read (Elt F) (VO0_12.writes (Elt F) VO0_12.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).1)

/-- The run's pieces for output 13 tile its block (1 store of `S192x896`, checked by the kernel's evaluation: Lib/Ring.lean `Piece.tiledL`, linear in the pieces, through a loop's `@[irreducible]` trip theorem too), so they cover it. -/
theorem cover0_A_13 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) (y : S192x896.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.1 S192x896.size (by sl_kernel_rfl) y

/-- What the run leaves in output 13's staging buffer: its pieces read back over junk. -/
def out0_A_13 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) : Vec F S192x896 .f32 :=
  VO0_13.read (Elt F) (VO0_13.writes (Elt F) VO0_13.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.1)

/-- The run's pieces for output 14 tile its block (1 store of `S192x896`, checked by the kernel's evaluation: Lib/Ring.lean `Piece.tiledL`, linear in the pieces, through a loop's `@[irreducible]` trip theorem too), so they cover it. -/
theorem cover0_A_14 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) (y : S192x896.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.1 S192x896.size (by sl_kernel_rfl) y

/-- What the run leaves in output 14's staging buffer: its pieces read back over junk. -/
def out0_A_14 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) : Vec F S192x896 .bf16 :=
  VO0_14.read (Elt F) (VO0_14.writes (Elt F) VO0_14.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.1)

/-- The run's pieces for output 15 tile its block (1 store of `S192x896`, checked by the kernel's evaluation: Lib/Ring.lean `Piece.tiledL`, linear in the pieces, through a loop's `@[irreducible]` trip theorem too), so they cover it. -/
theorem cover0_A_15 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) (y : S192x896.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.1 S192x896.size (by sl_kernel_rfl) y

/-- What the run leaves in output 15's staging buffer: its pieces read back over junk. -/
def out0_A_15 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) : Vec F S192x896 .i8 :=
  VO0_15.read (Elt F) (VO0_15.writes (Elt F) VO0_15.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.1)

/-- The run's pieces for output 16 tile its block (1 store of `S1x192`, checked by the kernel's evaluation: Lib/Ring.lean `Piece.tiledL`, linear in the pieces, through a loop's `@[irreducible]` trip theorem too), so they cover it. -/
theorem cover0_A_16 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) (y : S1x192.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.1 S1x192.size (by sl_kernel_rfl) y

/-- What the run leaves in output 16's staging buffer: its pieces read back over junk. -/
def out0_A_16 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) : Vec F S1x192 .f32 :=
  VO0_16.read (Elt F) (VO0_16.writes (Elt F) VO0_16.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.1)

/-- The run's pieces for output 17 tile its block (1 store of `S192x896`, checked by the kernel's evaluation: Lib/Ring.lean `Piece.tiledL`, linear in the pieces, through a loop's `@[irreducible]` trip theorem too), so they cover it. -/
theorem cover0_A_17 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) (y : S192x896.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.1 S192x896.size (by sl_kernel_rfl) y

/-- What the run leaves in output 17's staging buffer: its pieces read back over junk. -/
def out0_A_17 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) : Vec F S192x896 .i8 :=
  VO0_17.read (Elt F) (VO0_17.writes (Elt F) VO0_17.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.1)

/-- The run's pieces for output 18 tile its block (1 store of `S1x192`, checked by the kernel's evaluation: Lib/Ring.lean `Piece.tiledL`, linear in the pieces, through a loop's `@[irreducible]` trip theorem too), so they cover it. -/
theorem cover0_A_18 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) (y : S1x192.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.1 S1x192.size (by sl_kernel_rfl) y

/-- What the run leaves in output 18's staging buffer: its pieces read back over junk. -/
def out0_A_18 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) : Vec F S1x192 .f32 :=
  VO0_18.read (Elt F) (VO0_18.writes (Elt F) VO0_18.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.1)

/-- The run's pieces for output 19 tile its block (38 stores of `S192x128`, checked by the kernel's evaluation: Lib/Ring.lean `Piece.tiledL`, linear in the pieces, through a loop's `@[irreducible]` trip theorem too), so they cover it. -/
theorem cover0_A_19 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) (y : S192x4864.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.2.1 S192x128.size (by sl_kernel_rfl) y

/-- What the run leaves in output 19's staging buffer: its pieces read back over junk. -/
def out0_A_19 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) : Vec F S192x4864 .i8 :=
  VO0_19.read (Elt F) (VO0_19.writes (Elt F) VO0_19.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.2.1)

/-- The run's pieces for output 20 tile its block (1 store of `S1x192`, checked by the kernel's evaluation: Lib/Ring.lean `Piece.tiledL`, linear in the pieces, through a loop's `@[irreducible]` trip theorem too), so they cover it. -/
theorem cover0_A_20 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) (y : S1x192.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.2.2.1 S1x192.size (by sl_kernel_rfl) y

/-- What the run leaves in output 20's staging buffer: its pieces read back over junk. -/
def out0_A_20 (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
    (x0 : Vec F S192x896 .bf16) (x1 : Vec F S192x896 .f32) (x2 : Vec F S112x896 .i32) (x3 : Vec F S7x112 .i32) (x4 : Vec F S7x896 .bf16) (x5 : Vec F S1x896 .f32) (x6 : Vec F S1216x896 .i32) (x7 : Vec F S7x1216 .i32) (x8 : Vec F S7x9728 .bf16) (x9 : Vec F S112x4864 .i32) (x10 : Vec F S38x112 .i32) (x11 : Vec F S38x896 .bf16) : Vec F S1x192 .f32 :=
  VO0_20.read (Elt F) (VO0_20.writes (Elt F) VO0_20.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S192x896 .bf16 × Vec F S192x896 .f32 × Vec F S192x896 .bf16 × Vec F S192x896 .i8 × Vec F S1x192 .f32 × Vec F S192x896 .i8 × Vec F S1x192 .f32 × Vec F S192x4864 .i8 × Vec F S1x192 .f32 :=
  (out0_A_12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_19 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_20 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t).1
    | ⟨13, _⟩ => (outsAt0 m c t).2.1
    | ⟨14, _⟩ => (outsAt0 m c t).2.2.1
    | ⟨15, _⟩ => (outsAt0 m c t).2.2.2.1
    | ⟨16, _⟩ => (outsAt0 m c t).2.2.2.2.1
    | ⟨17, _⟩ => (outsAt0 m c t).2.2.2.2.2.1
    | ⟨18, _⟩ => (outsAt0 m c t).2.2.2.2.2.2.1
    | ⟨19, _⟩ => (outsAt0 m c t).2.2.2.2.2.2.2.1
    | ⟨20, _⟩ => (outsAt0 m c t).2.2.2.2.2.2.2.2
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t).1 := by dsimp only [dats]
theorem after0_13 (c : Dev nD) (t : Fin cfg0.N) : (dats m 0 c).after 13 t = (outsAt0 m c t).2.1 := by dsimp only [dats]
theorem after0_14 (c : Dev nD) (t : Fin cfg0.N) : (dats m 0 c).after 14 t = (outsAt0 m c t).2.2.1 := by dsimp only [dats]
theorem after0_15 (c : Dev nD) (t : Fin cfg0.N) : (dats m 0 c).after 15 t = (outsAt0 m c t).2.2.2.1 := by dsimp only [dats]
theorem after0_16 (c : Dev nD) (t : Fin cfg0.N) : (dats m 0 c).after 16 t = (outsAt0 m c t).2.2.2.2.1 := by dsimp only [dats]
theorem after0_17 (c : Dev nD) (t : Fin cfg0.N) : (dats m 0 c).after 17 t = (outsAt0 m c t).2.2.2.2.2.1 := by dsimp only [dats]
theorem after0_18 (c : Dev nD) (t : Fin cfg0.N) : (dats m 0 c).after 18 t = (outsAt0 m c t).2.2.2.2.2.2.1 := by dsimp only [dats]
theorem after0_19 (c : Dev nD) (t : Fin cfg0.N) : (dats m 0 c).after 19 t = (outsAt0 m c t).2.2.2.2.2.2.2.1 := by dsimp only [dats]
theorem after0_20 (c : Dev nD) (t : Fin cfg0.N) : (dats m 0 c).after 20 t = (outsAt0 m c t).2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.castSucc = Pipeline.ΦA spec0 c from rfl, PhiA0_eq]
  unfold outsAt0
  unfold out0_A_12 out0_A_13 out0_A_14 out0_A_15 out0_A_16 out0_A_17 out0_A_18 out0_A_19 out0_A_20; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_MlpIdeal`'s statement (Defs.lean) at any `F` — Proof.lean cites it at `Bits`:
    `theorem Cert.Proof.claim : Cert.Claim := ⟨Cert.MlpIdeal.Gen.facts, fun m ρ _ => Cert.MlpIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.MlpIdeal.Gen

end
-- ==== Proof.Blocks.lean ====
/- What each output array of the kernel holds after the run, block by block, over the frame in FrameIdeal.lean. -/
module

public import proofs.«01_k».proof.Proof.FrameIdeal
public import Idealize.ShloMosaic.Lib.Pipeline.Value

@[expose] public section

noncomputable section

namespace Cert.MlpIdeal.Value

open Cert.MlpIdeal Cert.MlpIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`Gen.outsAt0`: its component 0), read through the window's block. -/
theorem flushed12 (c : Dev nD) (t : Fin cfg0.N) :
    (dats m 0 c).flushed 12 t = (cfg0.win 12).cut (grid0.coords t) ((outsAt0 m c t).1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — the kernel's one case, `Gen.outsAt0` by definition. -/
theorem flushed12_A (c : Dev nD) (t : Fin cfg0.N) :
    (dats m 0 c).flushed 12 t = (cfg0.win 12).cut (grid0.coords t) (out0_A_12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S192x896.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 1), read through the window's block. -/
theorem flushed13 (c : Dev nD) (t : Fin cfg0.N) :
    (dats m 0 c).flushed 13 t = (cfg0.win 13).cut (grid0.coords t) ((outsAt0 m c t).2.1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — the kernel's one case, `Gen.outsAt0` by definition. -/
theorem flushed13_A (c : Dev nD) (t : Fin cfg0.N) :
    (dats m 0 c).flushed 13 t = (cfg0.win 13).cut (grid0.coords t) (out0_A_13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed13, outsAt0]

/-- The index map sends distinct grid points to distinct block indices (decided over the 1 point). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S192x896.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 2), read through the window's block. -/
theorem flushed14 (c : Dev nD) (t : Fin cfg0.N) :
    (dats m 0 c).flushed 14 t = (cfg0.win 14).cut (grid0.coords t) ((outsAt0 m c t).2.2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — the kernel's one case, `Gen.outsAt0` by definition. -/
theorem flushed14_A (c : Dev nD) (t : Fin cfg0.N) :
    (dats m 0 c).flushed 14 t = (cfg0.win 14).cut (grid0.coords t) (out0_A_14 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed14, outsAt0]

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S192x896.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`Gen.outsAt0`: its component 3), read through the window's block. -/
theorem flushed15 (c : Dev nD) (t : Fin cfg0.N) :
    (dats m 0 c).flushed 15 t = (cfg0.win 15).cut (grid0.coords t) ((outsAt0 m c t).2.2.2.1) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — the kernel's one case, `Gen.outsAt0` by definition. -/
theorem flushed15_A (c : Dev nD) (t : Fin cfg0.N) :
    (dats m 0 c).flushed 15 t = (cfg0.win 15).cut (grid0.coords t) (out0_A_15 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed15, outsAt0]

/-- The index map sends distinct grid points to distinct block indices (decided over the 1 point). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S192x896.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`Gen.outsAt0`: its component 4), read through the window's block. -/
theorem flushed16 (c : Dev nD) (t : Fin cfg0.N) :
    (dats m 0 c).flushed 16 t = (cfg0.win 16).cut (grid0.coords t) ((outsAt0 m c t).2.2.2.2.1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — the kernel's one case, `Gen.outsAt0` by definition. -/
theorem flushed16_A (c : Dev nD) (t : Fin cfg0.N) :
    (dats m 0 c).flushed 16 t = (cfg0.win 16).cut (grid0.coords t) (out0_A_16 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed16, outsAt0]

/-- The index map sends distinct grid points to distinct block indices (decided over the 1 point). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S1x192.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 5), read through the window's block. -/
theorem flushed17 (c : Dev nD) (t : Fin cfg0.N) :
    (dats m 0 c).flushed 17 t = (cfg0.win 17).cut (grid0.coords t) ((outsAt0 m c t).2.2.2.2.2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed17, outsAt0]

/-- The index map sends distinct grid points to distinct block indices (decided over the 1 point). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S192x896.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 6), read through the window's block. -/
theorem flushed18 (c : Dev nD) (t : Fin cfg0.N) :
    (dats m 0 c).flushed 18 t = (cfg0.win 18).cut (grid0.coords t) ((outsAt0 m c t).2.2.2.2.2.2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed18, outsAt0]

/-- The index map sends distinct grid points to distinct block indices (decided over the 1 point). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S1x192.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 7), read through the window's block. -/
theorem flushed19 (c : Dev nD) (t : Fin cfg0.N) :
    (dats m 0 c).flushed 19 t = (cfg0.win 19).cut (grid0.coords t) ((outsAt0 m c t).2.2.2.2.2.2.2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed19, outsAt0]

/-- The index map sends distinct grid points to distinct block indices (decided over the 1 point). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S192x4864.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 8), read through the window's block. -/
theorem flushed20 (c : Dev nD) (t : Fin cfg0.N) :
    (dats m 0 c).flushed 20 t = (cfg0.win 20).cut (grid0.coords t) ((outsAt0 m c t).2.2.2.2.2.2.2.2) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed20, outsAt0]

/-- The index map sends distinct grid points to distinct block indices (decided over the 1 point). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S1x192.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v5_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v5_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v5_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v5_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v5_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v5_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v5_6) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v5_7) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v5_8) = (dats m 0 c).arrAt 20 cfg0.N :=
  (h c).1 20

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 12 cfg0.N
      ∧ r.2.mem ((c : Thread nD τ).loc main_v5_1) = (dats m 0 c).arrAt 13 cfg0.N
      ∧ r.2.mem ((c : Thread nD τ).loc main_v5_2) = (dats m 0 c).arrAt 14 cfg0.N
      ∧ r.2.mem ((c : Thread nD τ).loc main_v5_3) = (dats m 0 c).arrAt 15 cfg0.N
      ∧ r.2.mem ((c : Thread nD τ).loc main_v5_4) = (dats m 0 c).arrAt 16 cfg0.N
      ∧ r.2.mem ((c : Thread nD τ).loc main_v5_5) = (dats m 0 c).arrAt 17 cfg0.N
      ∧ r.2.mem ((c : Thread nD τ).loc main_v5_6) = (dats m 0 c).arrAt 18 cfg0.N
      ∧ r.2.mem ((c : Thread nD τ).loc main_v5_7) = (dats m 0 c).arrAt 19 cfg0.N
      ∧ r.2.mem ((c : Thread nD τ).loc main_v5_8) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post12 m r h c,
      post13 m r h c,
      post14 m r h c,
      post15 m r h c,
      post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.MlpIdeal.Value

end
-- ==== Proof.Codes.lean ====
/- The four-bit codes of a packed weight word: the kernel's reading of them and the reference's, and that they differ by the constant eight. -/
module
public import Idealize.ShloMosaic.Lib.Pointwise

@[expose] public section
noncomputable section
namespace Cert.MlpIdeal.Value
open Idealize.ShloMosaic

/-- The word the kernel makes of a packed word: its eight four-bit fields put in the order of the columns, each with its
top bit flipped. -/
def natural (w : BitVec 32) : BitVec 32 :=
  let t := IntOp.andi (IntOp.xori w (IntOp.shrui .vector w 8#32)) 65280#32
  let w := IntOp.xori (IntOp.xori w t) (IntOp.shli .vector t 8#32)
  let t := IntOp.andi (IntOp.xori w (IntOp.shrui .vector w 4#32)) 15728880#32
  let w := IntOp.xori (IntOp.xori w t) (IntOp.shli .vector t 4#32)
  IntOp.xori w 2290649224#32

/-- The four bits of column `c` in the kernel. -/
def kernelNibble (w : BitVec 32) (c : ℕ) : BitVec 4 :=
  BitVec.setWidth 4 (IntOp.shrsi .vector
    (IntOp.shli .vector (natural w) (IntOp.subi 28#32 (IntOp.muli 4#32 (BitVec.ofNat 32 c)))) 28#32)

/-- The amount by which the reference shifts a word down for column `c`. -/
def shiftOf (c : ℕ) : BitVec 32 :=
  IntOp.addi (IntOp.muli 4#32 (IntOp.shrsi .host (BitVec.ofNat 32 c) 1#32))
    (IntOp.muli 16#32 (IntOp.andi (BitVec.ofNat 32 c) 1#32))

/-- The four bits of column `c` in the reference, as a word. -/
def refNibble (w : BitVec 32) (c : ℕ) : BitVec 32 :=
  IntOp.andi (IntOp.shrsi .host w (shiftOf c)) 15#32

/-- A four-bit code with its top bit flipped, read as a signed number, is the code less eight. -/
theorem toInt_flipped : ∀ x : BitVec 4, (BitVec.signExtend 8 (x ^^^ 8#4)).toInt = (x.toNat : ℤ) - 8 := by
  decide

/-- The kernel's four bits are the reference's with the top bit flipped. -/
theorem kernelNibble_eq (w : BitVec 32) (c : ℕ) (hc : c < 8) :
    kernelNibble w c = BitVec.setWidth 4 (refNibble w c) ^^^ 8#4 := by
  interval_cases c <;>
  · refine BitVec.eq_of_getLsbD_eq fun i hi => ?_
    interval_cases i <;>
    simp [kernelNibble, refNibble, natural, shiftOf, IntOp.andi, IntOp.xori, IntOp.shrui, IntOp.shli, IntOp.shrsi, IntOp.subi,
      IntOp.muli, IntOp.addi, BitVec.getLsbD_sshiftRight, BitVec.getLsbD_ofNat, Nat.testBit, BitVec.getElem_sshiftRight, -BitVec.getLsbD_eq_getElem, ← BitVec.getLsbD_eq_getElem, Bool.xor_left_comm]

/-- The reference's masked word, read as a signed number, is the number its four low bits name. -/
theorem refNibble_toInt (w : BitVec 32) (c : ℕ) :
    (refNibble w c).toInt = ((BitVec.setWidth 4 (refNibble w c)).toNat : ℤ) := by
  have h : (refNibble w c).toNat < 16 := by
    have : (refNibble w c).toNat ≤ 15 := by
      simp only [refNibble, IntOp.andi, BitVec.toNat_and]
      exact Nat.and_le_right
    omega
  rw [BitVec.toInt_eq_toNat_of_lt (by omega), BitVec.toNat_setWidth, Nat.mod_eq_of_lt (by omega)]

/-- The kernel's code is the reference's less eight. -/
theorem kernel_code (w : BitVec 32) (c : ℕ) (hc : c < 8) :
    (BitVec.signExtend 8 (kernelNibble w c)).toInt = (refNibble w c).toInt - 8 := by
  rw [kernelNibble_eq w c hc, toInt_flipped, refNibble_toInt]

/-- The difference of two codes: the eights cancel. -/
theorem code_sub (w v : BitVec 32) (c : ℕ) (hc : c < 8) :
    (((BitVec.signExtend 8 (kernelNibble w c)).toInt : ℝ) : EReal) - (((BitVec.signExtend 8 (kernelNibble v c)).toInt : ℝ) : EReal) =
      (((refNibble w c).toInt : ℝ) : EReal) - (((refNibble v c).toInt : ℝ) : EReal) := by
  rw [kernel_code w c hc, kernel_code v c hc, ← EReal.coe_sub, ← EReal.coe_sub]
  exact congrArg _ (by push_cast; ring)

end Cert.MlpIdeal.Value
-- ==== Proof.Tile.lean ====
/- One tile of a projection in the kernel, entry by entry: unpacked codes less zero points, times scales, in a product with the rows of codes. -/
module

public import proofs.«01_k».proof.Proof.Codes
public import proofs.«01_k».proof.Proof.Gen.MlpIdeal.Frame.Runs
public import Idealize.ShloMosaic.Lib.Pointwise
public import Idealize.ShloMosaic.Lib.ValueIdx

@[expose] public section

set_option maxRecDepth 16384

noncomputable section

namespace Cert.MlpIdeal.Value

open Idealize.ShloMosaic Idealize.ShloMosaic.TcCoe Idealize.SL.Sem
open Cert.MlpIdeal Cert.MlpIdeal.Gen

/-- The number that the kernel reads for code `c` of a packed word: a signed code of four bits. -/
def kN (w : BitVec 32) (c : ℕ) : EReal := (((BitVec.signExtend 8 (kernelNibble w c)).toInt : ℝ) : EReal)

/-- The dequantised rows of one tile: codes less zero points, times scales, group by group. -/
def deq128 (z s : FVec Ideal S128x8 .bf16) (w : FVec Ideal S128x896 .bf16) : FVec Ideal S128x896 .bf16 :=
  k0_pay93 z s w
    (broadcastTo S128x128 (shapeCast S128x1 (extractStridedSlice S128x1 ![0, 0] z slices_S128x8_o0_0_S128x1) shapeCasts_S128x1_S128x1) broadcasts_S128x1_S128x128)
    (shapeCast S128x1 (extractStridedSlice S128x1 ![0, 0] s slices_S128x8_o0_0_S128x1) shapeCasts_S128x1_S128x1)

/-- Rows of codes against the rows of a dequantised tile, times the rows' scales. -/
def proj128 (scale : FVec Ideal S192x1 .f32) (a : FVec Ideal S192x896 .bf16) (w : FVec Ideal S128x896 .bf16) : FVec Ideal S192x128 .f32 :=
  mulf (matmul dot_S192x896_S128x896_S192x128_1_1_0_0_n_n none a w (constant S192x128 .f32 0x00000000#32))
    (broadcastTo S192x128 scale broadcasts_S192x1_S192x128)

/-- Unpacking a column block of packed zero points. -/
theorem nib8_apply (w : Vec Ideal S16x8 .i32) (i : Fin 128) (j : Fin 8) :
    k0_pay3 (F := Ideal) w (ix2 i j) = kN (w (ix2 ⟨i.val / 8, by omega⟩ j)) (i.val % 8) := by
  unfold kN kernelNibble natural
  pointwise [k0_pay3]
  rfl

/-- Unpacking a block of packed weights. -/
theorem nib896_apply (w : Vec Ideal S16x896 .i32) (i : Fin 128) (j : Fin 896) :
    k0_pay5 (F := Ideal) w (ix2 i j) = kN (w (ix2 ⟨i.val / 8, by omega⟩ j)) (i.val % 8) := by
  unfold kN kernelNibble natural
  pointwise [k0_pay5]
  rfl

/-- One dequantised weight depends on its column and its group alone. -/
theorem deq_congr {m n g : ℕ} (z s : (⟨2, ![m, g]⟩ : Shape).Idx → EReal) (w : (⟨2, ![m, n]⟩ : Shape).Idx → EReal) (i : Fin m) {j j' : Fin n} {k k' : Fin g} (hj : j.val = j'.val)
    (hk : k.val = k'.val) : (w (ix2 i j) - z (ix2 i k)) * s (ix2 i k) = (w (ix2 i j') - z (ix2 i k')) * s (ix2 i k') := by
  obtain rfl := Fin.ext hj
  obtain rfl := Fin.ext hk
  rfl

/-- One dequantised weight: its code less its group's zero point, times its group's scale. -/
theorem deq128_apply (z s : FVec Ideal S128x8 .bf16) (w : FVec Ideal S128x896 .bf16) (i : Fin 128) (j : Fin 896) :
    deq128 z s w (ix2 i j) = (w (ix2 i j) - z (ix2 i ⟨j.val / 128, by omega⟩)) * s (ix2 i ⟨j.val / 128, by omega⟩) := by
  pointwise [deq128, k0_pay93]
  split_ifs <;> refine deq_congr z s w i ?_ ?_ <;> simp <;> omega

/-- One entry of a tile: the sum of products along the row, times the row's scale. -/
theorem proj128_apply (scale : FVec Ideal S192x1 .f32) (a : FVec Ideal S192x896 .bf16) (w : FVec Ideal S128x896 .bf16) (r : Fin 192) (j : Fin 128) :
    proj128 scale a w (ix2 r j) = (∑ k : Fin 896, a (ix2 r k) * w (ix2 j k)) * scale (ix2 r 0) := by
  pointwise [proj128]

/-- One tile of the output projection: seven rows of zero points and of scales are padded, transposed and unpacked. -/
def woTile (scale : FVec Ideal S192x1 .f32) (a : FVec Ideal S192x896 .bf16) (zq : Vec Ideal S7x16 .i32) (sc : Vec Ideal S7x128 .bf16)
    (w : Vec Ideal S16x896 .i32) : FVec Ideal S192x128 .f32 :=
  shapeCast S192x128 (proj128 scale a (deq128 (k0_pay3 (F := Ideal) (k0_pay22 (F := Ideal) zq)) (k0_pay26 (k0_pay21 sc)) (k0_pay5 w))) shapeCasts_S192x128_S192x128

/-- The kernel's first stored tile of the output projection is that tile. -/
theorem woTile_0 (scale : FVec Ideal S192x1 .f32) (a : FVec Ideal S192x896 .bf16) (zq : Vec Ideal S7x16 .i32) (sc : Vec Ideal S7x128 .bf16)
    (w : Vec Ideal S16x896 .i32) :
    k0_pay34 scale a (k0_pay25 (F := Ideal) (k0_pay22 (F := Ideal) zq) (k0_pay23 (F := Ideal) zq) k0_pay24) (k0_pay26 (k0_pay21 sc)) (k0_pay29 (F := Ideal) (k0_pay27 (F := Ideal) w) k0_pay28)
      (k0_pay30 (k0_pay25 (F := Ideal) (k0_pay22 (F := Ideal) zq) (k0_pay23 (F := Ideal) zq) k0_pay24) (k0_pay26 (k0_pay21 sc)) (k0_pay27 (F := Ideal) w) k0_pay28)
      (k0_pay31 (k0_pay25 (F := Ideal) (k0_pay22 (F := Ideal) zq) (k0_pay23 (F := Ideal) zq) k0_pay24) (k0_pay26 (k0_pay21 sc)) (k0_pay27 (F := Ideal) w) k0_pay28)
      (k0_pay32 (k0_pay25 (F := Ideal) (k0_pay22 (F := Ideal) zq) (k0_pay23 (F := Ideal) zq) k0_pay24) (k0_pay26 (k0_pay21 sc)) (k0_pay27 (F := Ideal) w) k0_pay28)
      (k0_pay33 (k0_pay25 (F := Ideal) (k0_pay22 (F := Ideal) zq) (k0_pay23 (F := Ideal) zq) k0_pay24)) = woTile scale a zq sc w := rfl

/-- One entry of a tile of the output projection, in the codes of the packed words. -/
theorem woTile_apply (scale : FVec Ideal S192x1 .f32) (a : FVec Ideal S192x896 .bf16) (zq : Vec Ideal S7x16 .i32) (sc : Vec Ideal S7x128 .bf16)
    (w : Vec Ideal S16x896 .i32) (r : Fin 192) (j : Fin 128) :
    woTile scale a zq sc w (ix2 r j) = (∑ k : Fin 896, a (ix2 r k) *
      ((kN (w (ix2 ⟨j.val / 8, by omega⟩ k)) (j.val % 8) - kN (zq (ix2 ⟨k.val / 128, by omega⟩ ⟨j.val / 8, by omega⟩)) (j.val % 8)) * sc (ix2 ⟨k.val / 128, by omega⟩ j))) * scale (ix2 r 0) := by
  unfold woTile
  rw [shapeCast_id, proj128_apply]
  refine congrArg (fun x : EReal => x * scale (ix2 r 0)) (Finset.sum_congr rfl fun k _ => ?_)
  rw [deq128_apply, nib8_apply, nib896_apply]
  pointwise [k0_pay22, k0_pay26, k0_pay21]
  have hk : k.val / 128 < 7 := by omega
  rw [dif_pos hk, dif_pos hk]

end Cert.MlpIdeal.Value
end
-- ==== Proof.Spec.lean ====
/- The mathematics that kernel and reference share, over the extended reals: the row quantiser, the four-bit weights, the
   projections, the normalisation. -/
module

public import proofs.«01_k».proof.Proof.Codes
public import Idealize.ShloMosaic.Lib.Pointwise
public import Idealize.ShloMosaic.Lib.ValueIdx

@[expose] public section
noncomputable section
namespace Cert.Spec
open Idealize.ShloMosaic Cert.MlpIdeal.Value

/-- A vector by its coordinate. -/
def at1 {n : ℕ} {α : Type} (x : (⟨1, ![n]⟩ : Shape).Idx → α) (i : Fin n) : α := x (ix1 i)

/-- An array by its two coordinates. -/
def at2 {n m : ℕ} {α : Type} (x : (⟨2, ![n, m]⟩ : Shape).Idx → α) (i : Fin n) (j : Fin m) : α := x (ix2 i j)

/-- An array of three axes read at an entry. -/
def at3 {n m l : ℕ} {α : Type} (a : (⟨3, ![n, m, l]⟩ : Shape).Idx → α) (i : Fin n) (j : Fin m) (k : Fin l) : α := a (ix3 i j k)

/-- The pattern of 127. -/
theorem ofBits_127 : Ideal.ofBits .f32 0x42FE0000#32 = ((127 : ℝ) : EReal) := by
  simp [Ideal.ofBits, Ideal.ieee, -EReal.coe_mul, -EReal.coe_neg]; norm_num

/-- The pattern of -127. -/
theorem ofBits_neg127 : Ideal.ofBits .f32 0xC2FE0000#32 = ((-127 : ℝ) : EReal) := by
  simp [Ideal.ofBits, Ideal.ieee, -EReal.coe_mul, -EReal.coe_neg]; norm_num

/-- The pattern of 896. -/
theorem ofBits_896 : Ideal.ofBits .f32 0x44600000#32 = ((896 : ℝ) : EReal) := by
  simp [Ideal.ofBits, Ideal.ieee, -EReal.coe_mul, -EReal.coe_neg]; norm_num

/-- The pattern of minus infinity. -/
theorem ofBits_neginf : Ideal.ofBits .f32 0xFF800000#32 = ⊥ := by
  simp [Ideal.ofBits, Ideal.ieee]

/-- The largest magnitude of a row. -/
def amax {n : ℕ} (v : Fin n → EReal) : EReal := Finset.univ.fold max ⊥ fun k => max (v k) (-(v k))

/-- The scale of a row: its largest magnitude over 127, or one for a row of zeros. -/
def qs {n : ℕ} (v : Fin n → EReal) : EReal := if amax v = 0 then 1 else Ideal.div (amax v) ((127 : ℝ) : EReal)

/-- The codes of a row: each entry over the scale, rounded to the nearest integer (ties to even), and clipped. -/
def qc {n : ℕ} (v : Fin n → EReal) (k : Fin n) : EReal :=
  min ((127 : ℝ) : EReal) (max ((-127 : ℝ) : EReal) (Ideal.liftRound Ideal.roundHalfEven (Ideal.div (v k) (qs v))))

/-- The four-bit code number `c` of a packed word. -/
def nib (w : BitVec 32) (c : ℕ) : EReal := (((refNibble w c).toInt : ℝ) : EReal)

/-- One weight: code less zero point, times scale. -/
def wt (w z : BitVec 32) (c : ℕ) (s : EReal) : EReal := (nib w c - nib z c) * s

/-- The dequantised weight of row `k` and column `j`: eight columns to a word, 128 rows to a group. -/
def awq {K G W J : ℕ} (qw : (⟨2, ![K, W]⟩ : Shape).Idx → BitVec 32) (qz : (⟨2, ![G, W]⟩ : Shape).Idx → BitVec 32)
    (s : (⟨2, ![G, J]⟩ : Shape).Idx → EReal) (hJ : J = 8 * W) (hK : K = 128 * G) (k : Fin K) (j : Fin J) : EReal :=
  wt (qw (ix2 k ⟨j.val / 8, by omega⟩)) (qz (ix2 ⟨k.val / 128, by omega⟩ ⟨j.val / 8, by omega⟩)) (j.val % 8)
    (s (ix2 ⟨k.val / 128, by omega⟩ j))

/-- A row of codes against the columns of a weight, times the row's scale. -/
def proj {K J : ℕ} (codes : Fin K → EReal) (scale : EReal) (w : Fin K → Fin J → EReal) (j : Fin J) : EReal :=
  (∑ k, codes k * w k j) * scale

/-- A quantised row against the columns of a weight. -/
def qproj {K J : ℕ} (v : Fin K → EReal) (w : Fin K → Fin J → EReal) (j : Fin J) : EReal := proj (qc v) (qs v) w j

/-- A row over its root mean square, times a gain. -/
def rms (v : Fin 896 → EReal) (g : Fin 896 → EReal) (k : Fin 896) : EReal :=
  Ideal.div (v k) (Ideal.sqrt (Ideal.div (∑ l, v l * v l) ((896 : ℝ) : EReal) + (Scalar.ofBits (F := Ideal) .f32 0x358637BD#32 : EReal))) * g k

/-- A row of gate and up columns: the gate times its logistic, times the up column. -/
def gated (gu : Fin 9728 → EReal) (k : Fin 4864) : EReal :=
  gu ⟨k.val, by omega⟩ * Ideal.logistic (gu ⟨k.val, by omega⟩) * gu ⟨4864 + k.val, by omega⟩

/-- The residual stream after the output projection. -/
def hmid (x attn : Fin 192 → Fin 896 → EReal) (wo : Fin 896 → Fin 896 → EReal) (r : Fin 192) (k : Fin 896) : EReal :=
  x r k + qproj (attn r) wo k

/-- The normalised rows. -/
def zrow (x attn : Fin 192 → Fin 896 → EReal) (wo : Fin 896 → Fin 896 → EReal) (g : Fin 896 → EReal) (r : Fin 192) : Fin 896 → EReal :=
  rms (hmid x attn wo r) g

/-- The gated rows. -/
def act (x attn : Fin 192 → Fin 896 → EReal) (wo : Fin 896 → Fin 896 → EReal) (g : Fin 896 → EReal)
    (wgu : Fin 896 → Fin 9728 → EReal) (r : Fin 192) : Fin 4864 → EReal :=
  gated (qproj (zrow x attn wo g r) wgu)

/-- The residual stream after the down projection. -/
def out (x attn : Fin 192 → Fin 896 → EReal) (wo : Fin 896 → Fin 896 → EReal) (g : Fin 896 → EReal)
    (wgu : Fin 896 → Fin 9728 → EReal) (wd : Fin 4864 → Fin 896 → EReal) (r : Fin 192) (k : Fin 896) : EReal :=
  hmid x attn wo r k + qproj (act x attn wo g wgu r) wd k

end Cert.Spec
end
-- ==== Proof.Rows.lean ====
/- The row quantisers and the normalisation in the kernel, entry by entry. -/
module
public import proofs.«01_k».proof.Proof.Tile
public import proofs.«01_k».proof.Proof.Spec
@[expose] public section

set_option maxRecDepth 16384
noncomputable section
namespace Cert.MlpIdeal.Value
open Idealize.ShloMosaic Idealize.ShloMosaic.TcCoe Idealize.SL.Sem
open Cert.MlpIdeal Cert.MlpIdeal.Gen Cert.Spec

/-- The constant standing for one over 127. -/
theorem named_127 : (Named.named (F := Ideal) (φ := .f32) κ "inv_127" 0x3C010204#32 : EReal) = ((1 / 127 : ℝ) : EReal) := rfl

/-- The constant standing for one over 896. -/
theorem named_896 : (Named.named (F := Ideal) (φ := .f32) κ "inv_896" 0x3A924925#32 : EReal) = ((1 / 896 : ℝ) : EReal) := rfl

/-- The scale of a row. -/
theorem pay16_apply (x : FVec Ideal S192x896 .f32) (r : Fin 192) (o : Fin 1) :
    k0_pay16 (F := Ideal) x (ix2 r o) = qs (fun k => x (ix2 r k)) := by
  unfold qs amax
  pointwise [k0_pay16]
  simp only [ofBits_127, ofBits_neg127, ofBits_896, ofBits_neginf]
  rw [named_127, ← Ideal.div_coe (by norm_num)]
  rfl

/-- The codes of a row. -/
theorem pay17_apply (x : FVec Ideal S192x896 .f32) (r : Fin 192) (k : Fin 896) :
    k0_pay17 (F := Ideal) x (ix2 r k) = qc (fun k => x (ix2 r k)) k := by
  unfold qc
  rw [← pay16_apply x r 0]
  pointwise [k0_pay17]
  simp only [ofBits_127, ofBits_neg127, ofBits_896, ofBits_neginf]

/-- The scales, laid out along a row. -/
theorem pay19_apply (x : FVec Ideal S192x896 .f32) (r : Fin 192) (o : Fin 1) :
    k0_pay19 (F := Ideal) x (ix2 o r) = qs (fun k => x (ix2 r k)) := by
  rw [← pay16_apply x r 0]
  pointwise [k0_pay19]

/-- The normalised rows. -/
theorem pay96_apply (x0 : FVec Ideal S192x896 .bf16) (p : FVec Ideal S192x896 .f32) (g : FVec Ideal S1x896 .f32) (r : Fin 192) (k : Fin 896) :
    k0_pay96 (F := Ideal) x0 p g (ix2 r k) = rms (fun k => x0 (ix2 r k) + p (ix2 r k)) (fun k => g (ix2 0 k)) k := by
  unfold rms
  pointwise [k0_pay96, k0_pay95]
  rw [named_896, ← Ideal.div_coe (by norm_num)]

/-- The scales of the normalised rows. -/
theorem pay97_apply (x0 : FVec Ideal S192x896 .bf16) (p : FVec Ideal S192x896 .f32) (g : FVec Ideal S1x896 .f32) (r : Fin 192) (o : Fin 1) :
    k0_pay97 (F := Ideal) x0 p g (ix2 r o) = qs (fun k => k0_pay96 (F := Ideal) x0 p g (ix2 r k)) := by
  unfold qs amax
  pointwise [k0_pay97]
  simp only [ofBits_127, ofBits_neg127, ofBits_896, ofBits_neginf]
  rw [named_127, ← Ideal.div_coe (by norm_num)]
  rfl

/-- The codes of the normalised rows. -/
theorem pay99_apply (x0 : FVec Ideal S192x896 .bf16) (p : FVec Ideal S192x896 .f32) (g : FVec Ideal S1x896 .f32) (r : Fin 192) (k : Fin 896) :
    k0_pay99 (F := Ideal) (k0_pay98 (F := Ideal) x0 p g) (Scalar.ofBits (F := Ideal) .f32 0xC2FE0000#32) (ix2 r k) = qc (fun k => k0_pay96 (F := Ideal) x0 p g (ix2 r k)) k := by
  unfold qc
  rw [← pay97_apply x0 p g r 0]
  pointwise [k0_pay99, k0_pay98]
  simp only [ofBits_127, ofBits_neg127, ofBits_896, ofBits_neginf]

/-- The scales, laid out along a row. -/
theorem pay101_apply (s : FVec Ideal S192x1 .f32) (r : Fin 192) (o : Fin 1) :
    k0_pay101 (F := Ideal) s (ix2 o r) = s (ix2 r 0) := by
  pointwise [k0_pay101]

/-- The zero points, turned. -/
theorem pay103_apply (z : Vec Ideal S7x1216 .i32) (i : Fin 1216) (j : Fin 7) :
    k0_pay103 (F := Ideal) z (ix2 i ⟨j.val, by omega⟩) = z (ix2 j i) := by
  pointwise [k0_pay103]

/-- The scales of the weights, turned. -/
theorem pay104_apply (z : Vec Ideal S7x9728 .bf16) (i : Fin 9728) (j : Fin 7) :
    k0_pay104 (F := Ideal) z (ix2 i ⟨j.val, by omega⟩) = z (ix2 j i) := by
  pointwise [k0_pay104]

/-- One trip of the fold of the largest magnitude. -/
theorem pay107_apply (a : FVec Ideal S192x1 .f32) (v : Vec Ideal S1x192x128 .f32) (r : Fin 192) (o : Fin 1) :
    k0_pay107 (F := Ideal) a v (ix2 r o) = max (a (ix2 r o)) (amax (fun j => v (ix3 0 r j))) := by
  unfold amax
  pointwise [k0_pay107]
  simp only [ofBits_neginf]
  rfl

/-- The scale from the largest magnitude. -/
theorem pay109_apply (a : FVec Ideal S192x1 .f32) (r : Fin 192) (o : Fin 1) :
    k0_pay109 (F := Ideal) a (k0_pay108 (F := Ideal) a) (ix2 r o) = if a (ix2 r o) = 0 then 1 else Ideal.div (a (ix2 r o)) ((127 : ℝ) : EReal) := by
  pointwise [k0_pay109, k0_pay108]
  rw [named_127, ← Ideal.div_coe (by norm_num)]

/-- The rows of one tile over the rows' scales, rounded and clipped. -/
theorem pay118_apply (s : FVec Ideal S192x1 .f32) (v : Vec Ideal S1x192x128 .f32) (r : Fin 192) (j : Fin 128) :
    k0_pay118 (F := Ideal) s v (ix2 r j) =
      min ((127 : ℝ) : EReal) (max ((-127 : ℝ) : EReal) (Ideal.liftRound Ideal.roundHalfEven (Ideal.div (v (ix3 0 r j)) (s (ix2 r 0))))) := by
  pointwise [k0_pay118]
  simp only [ofBits_127, ofBits_neg127, ofBits_896, ofBits_neginf]

/-- The same codes, laid out as a slab. -/
theorem pay120_apply (s : FVec Ideal S192x1 .f32) (v : Vec Ideal S1x192x128 .f32) (r : Fin 192) (j : Fin 128) (o : Fin 1) :
    k0_pay120 (F := Ideal) s v (ix3 o r j) = k0_pay118 (F := Ideal) s v (ix2 r j) := by
  pointwise [k0_pay120]

/-- The last sum. -/
theorem pay2_apply (s : FVec Ideal S192x1 .f32) (h y : Vec Ideal S192x896 .f32) (r : Fin 192) (k : Fin 896) :
    k0_pay2 (F := Ideal) s h y (ix2 r k) = h (ix2 r k) + y (ix2 r k) * s (ix2 r 0) := by
  pointwise [k0_pay2]

end Cert.MlpIdeal.Value
end
-- ==== Proof.Wo.lean ====
/- What the kernel's scratch buffers hold: the output projection. -/
module
public import proofs.«01_k».proof.Proof.RunIdeal
public import proofs.«01_k».proof.Proof.Rows
public import Idealize.ShloMosaic.Lib.Pipeline.ReadBack
@[expose] public section

set_option maxRecDepth 16384
noncomputable section
namespace Cert.MlpIdeal.Value
open Idealize.ShloMosaic Idealize.ShloMosaic.TcCoe Idealize.SL.Sem
open Cert.MlpIdeal Cert.MlpIdeal.Gen Cert.Spec

variable (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
variable (x0 : Vec Ideal S192x896 .bf16) (x1 : Vec Ideal S192x896 .f32) (x2 : Vec Ideal S112x896 .i32) (x3 : Vec Ideal S7x112 .i32) (x4 : Vec Ideal S7x896 .bf16) (x5 : Vec Ideal S1x896 .f32) (x6 : Vec Ideal S1216x896 .i32) (x7 : Vec Ideal S7x1216 .i32) (x8 : Vec Ideal S7x9728 .bf16) (x9 : Vec Ideal S112x4864 .i32) (x10 : Vec Ideal S38x112 .i32) (x11 : Vec Ideal S38x896 .bf16)

/-- One entry of the output projection. -/
def woEnt (r : Fin 192) (j : Fin 896) : EReal :=
  (∑ k : Fin 896, k0_pay20 (F := Ideal) x1 (ix2 r k) *
      ((kN (x2 (ix2 ⟨j.val / 8, by omega⟩ k)) (j.val % 8) - kN (x3 (ix2 ⟨k.val / 128, by omega⟩ ⟨j.val / 8, by omega⟩)) (j.val % 8))
        * x4 (ix2 ⟨k.val / 128, by omega⟩ j))) * k0_pay16 (F := Ideal) x1 (ix2 r 0)

/-- The output projection. -/
def woOut (y : S192x896.Idx) : EReal := woEnt x1 x2 x3 x4 (y 0) (y 1)

/-- A load of a whole input block reads the block. -/
theorem whole0 {s : Shape} {e : EltTy} {m : Memref sig .tc .vmem s e} (h : m.IsWhole) (x : Vec Ideal s e) {off : Fin s.rank → ℕ} (hoff : off = fun _ => 0)
    (inb : ∀ a, off a + s.size a ≤ s.size a) :
    View.readAt (Elt Ideal) m.view (Rect.unit off s.size inb).toLoadRect (h.unread x) = x := by
  rw [View.readAt_eq_ld, h.read_unread, View.ld_unit_zero hoff]

/-- One entry of a tile computed from blocks of the packed weights. -/
theorem woTile_at (p q : ℕ) (hp : q = 8 * p) (h3 : ∀ a, (![0, p] : Fin 2 → ℕ) a + S7x16.size a ≤ S7x112.size a)
    (h4 : ∀ a, (![0, q] : Fin 2 → ℕ) a + S7x128.size a ≤ S7x896.size a) (h2 : ∀ a, (![p, 0] : Fin 2 → ℕ) a + S16x896.size a ≤ S112x896.size a)
    (hq : q + 128 ≤ 896) (r : Fin 192) (j : Fin 128) :
    woTile (k0_pay16 (F := Ideal) x1) (k0_pay20 (F := Ideal) x1)
      (View.ld x3 (Rect.unit (s := S7x112) ![0, p] S7x16.size h3)) (View.ld x4 (Rect.unit (s := S7x896) ![0, q] S7x128.size h4))
      (View.ld x2 (Rect.unit (s := S112x896) ![p, 0] S16x896.size h2)) (ix2 r j) = woEnt x1 x2 x3 x4 r ⟨q + j.val, by omega⟩ := by
  have hd : (q + j.val) / 8 = p + j.val / 8 := by omega
  have hm : (q + j.val) % 8 = j.val % 8 := by omega
  unfold woEnt
  rw [woTile_apply]
  refine congrArg (fun y : EReal => y * k0_pay16 (F := Ideal) x1 (ix2 r 0)) (Finset.sum_congr rfl fun k _ => ?_)
  refine congrArg (fun y : EReal => k0_pay20 (F := Ideal) x1 (ix2 r k) * y) ?_
  rw [View.ld_unit_apply_of x2 _ _ _ _ (ix2 (⟨(q + j.val) / 8, by omega⟩ : Fin 112) k) (fun a => by fin_cases a; exacts [hd, (Nat.zero_add _).symm]),
    View.ld_unit_apply_of x3 _ _ _ _ (ix2 (⟨k.val / 128, by omega⟩ : Fin 7) (⟨(q + j.val) / 8, by omega⟩ : Fin 112)) (fun a => by fin_cases a; exacts [(Nat.zero_add _).symm, hd]),
    View.ld_unit_apply_of x4 _ _ _ _ (ix2 (⟨k.val / 128, by omega⟩ : Fin 7) (⟨q + j.val, by omega⟩ : Fin 896)) (fun a => by fin_cases a; exacts [(Nat.zero_add _).symm, rfl])]
  simp only [hm]

/-- The store of the tile at column `q`, computed from the words at `p`. -/
def woPiece (p q : ℕ) (h3 : ∀ a, (![0, p] : Fin 2 → ℕ) a + S7x16.size a ≤ S7x112.size a)
    (h4 : ∀ a, (![0, q] : Fin 2 → ℕ) a + S7x128.size a ≤ S7x896.size a) (h2 : ∀ a, (![p, 0] : Fin 2 → ℕ) a + S16x896.size a ≤ S112x896.size a)
    (ho : ∀ a, (![0, q] : Fin 2 → ℕ) a + S192x128.size a ≤ S192x896.size a) : View.Piece (Elt Ideal) S192x896 .f32 :=
  ⟨Rect.unit (s := S192x896) ![0, q] S192x128.size ho,
    woTile (k0_pay16 (F := Ideal) (View.readAt (Elt Ideal) arg1.view (Rect.unit (s := S192x896) ![0, 0] S192x896.size (by decide)).toLoadRect (harg1.unread x1)))
      (k0_pay20 (F := Ideal) (View.readAt (Elt Ideal) arg1.view (Rect.unit (s := S192x896) ![0, 0] S192x896.size (by decide)).toLoadRect (harg1.unread x1)))
      (View.readAt (Elt Ideal) arg3.view (Rect.unit (s := S7x112) ![0, p] S7x16.size h3).toLoadRect (harg3.unread x3))
      (View.readAt (Elt Ideal) arg4.view (Rect.unit (s := S7x896) ![0, q] S7x128.size h4).toLoadRect (harg4.unread x4))
      (View.readAt (Elt Ideal) arg2.view (Rect.unit (s := S112x896) ![p, 0] S16x896.size h2).toLoadRect (harg2.unread x2))⟩

/-- A tile computed from blocks of the packed weights is a block of the projection. -/
theorem woTile_block (p q : ℕ) (hp : q = 8 * p) (h3 : ∀ a, (![0, p] : Fin 2 → ℕ) a + S7x16.size a ≤ S7x112.size a)
    (h4 : ∀ a, (![0, q] : Fin 2 → ℕ) a + S7x128.size a ≤ S7x896.size a) (h2 : ∀ a, (![p, 0] : Fin 2 → ℕ) a + S16x896.size a ≤ S112x896.size a)
    (ho : ∀ a, (![0, q] : Fin 2 → ℕ) a + S192x128.size a ≤ S192x896.size a) (x : (woPiece arg1 harg1 arg2 harg2 arg3 harg3 arg4 harg4 x1 x2 x3 x4 p q h3 h4 h2 ho).1.shape.Idx) :
    (woPiece arg1 harg1 arg2 harg2 arg3 harg3 arg4 harg4 x1 x2 x3 x4 p q h3 h4 h2 ho).2 x =
      woOut x1 x2 x3 x4 ((woPiece arg1 harg1 arg2 harg2 arg3 harg3 arg4 harg4 x1 x2 x3 x4 p q h3 h4 h2 ho).1.emb x) := by
  unfold woPiece at x ⊢
  have hx0 : (x 0).val < 192 := (x 0).isLt
  have hx1 : (x 1).val < 128 := (x 1).isLt
  have hq : q + 128 ≤ 896 := ho 1
  have e0 : ((Rect.unit (s := S192x896) ![0, q] S192x128.size ho).emb x 0) = (⟨(x 0).val, hx0⟩ : Fin 192) :=
    Fin.ext ((ValueKit.rect_emb_unit_val ..).trans (Nat.zero_add _))
  have e1 : ((Rect.unit (s := S192x896) ![0, q] S192x128.size ho).emb x 1) = (⟨q + (x 1).val, by omega⟩ : Fin 896) :=
    Fin.ext (ValueKit.rect_emb_unit_val ..)
  have ex : x = ix2 (⟨(x 0).val, hx0⟩ : Fin 192) (⟨(x 1).val, hx1⟩ : Fin 128) := by
    funext a; fin_cases a <;> rfl
  dsimp only
  rw [whole0 harg1 x1 (by decide), View.readAt_eq_ld, View.readAt_eq_ld, View.readAt_eq_ld, harg2.read_unread, harg3.read_unread, harg4.read_unread]
  unfold woOut
  rw [e0, e1, ← woTile_at x1 x2 x3 x4 p q hp h3 h4 h2 hq ⟨(x 0).val, hx0⟩ ⟨(x 1).val, hx1⟩]
  exact congrArg (woTile _ _ _ _ _) ex

set_option maxHeartbeats 0 in
/-- The stores of the output projection. -/
theorem wo_stores : kernelRun0_A.sl.HS0_7 (F := Ideal) c arg1 harg1 arg2 harg2 arg3 harg3 arg4 harg4 x1 x2 x3 x4 =
    [woPiece arg1 harg1 arg2 harg2 arg3 harg3 arg4 harg4 x1 x2 x3 x4 96 768 (by decide) (by decide) (by decide) (by decide),
      woPiece arg1 harg1 arg2 harg2 arg3 harg3 arg4 harg4 x1 x2 x3 x4 80 640 (by decide) (by decide) (by decide) (by decide),
      woPiece arg1 harg1 arg2 harg2 arg3 harg3 arg4 harg4 x1 x2 x3 x4 64 512 (by decide) (by decide) (by decide) (by decide),
      woPiece arg1 harg1 arg2 harg2 arg3 harg3 arg4 harg4 x1 x2 x3 x4 48 384 (by decide) (by decide) (by decide) (by decide),
      woPiece arg1 harg1 arg2 harg2 arg3 harg3 arg4 harg4 x1 x2 x3 x4 32 256 (by decide) (by decide) (by decide) (by decide),
      woPiece arg1 harg1 arg2 harg2 arg3 harg3 arg4 harg4 x1 x2 x3 x4 16 128 (by decide) (by decide) (by decide) (by decide),
      woPiece arg1 harg1 arg2 harg2 arg3 harg3 arg4 harg4 x1 x2 x3 x4 0 0 (by decide) (by decide) (by decide) (by decide)] := by
  unfold kernelRun0_A.sl.HS0_7
  rfl

/-- The stores of the output projection are blocks of it. -/
theorem wo_pieces : View.PiecesOf (woOut x1 x2 x3 x4) (kernelRun0_A.sl.HS0_7 (F := Ideal) c arg1 harg1 arg2 harg2 arg3 harg3 arg4 harg4 x1 x2 x3 x4) := by
  have h := woTile_block arg1 harg1 arg2 harg2 arg3 harg3 arg4 harg4 x1 x2 x3 x4
  rw [wo_stores]
  exact ⟨h _ _ rfl _ _ _ _, h _ _ rfl _ _ _ _, h _ _ rfl _ _ _ _, h _ _ rfl _ _ _ _, h _ _ rfl _ _ _ _, h _ _ rfl _ _ _ _, h _ _ rfl _ _ _ _, trivial⟩

/-- Reading the output projection back. -/
theorem v1091_eq : kernelRun0_A.sl.v1091 (F := Ideal) c arg1 harg1 arg2 harg2 arg3 harg3 arg4 harg4 arg21 x1 x2 x3 x4 = woOut x1 x2 x3 x4 := by
  have hc : ∀ y : S192x896.Idx, ∃ p ∈ kernelRun0_A.sl.HS0_7 (F := Ideal) c arg1 harg1 arg2 harg2 arg3 harg3 arg4 harg4 x1 x2 x3 x4, y ∈ p.1.set :=
    fun y => View.cover_of_tiledL (kernelRun0_A.sl.HS0_7 (F := Ideal) c arg1 harg1 arg2 harg2 arg3 harg3 arg4 harg4 x1 x2 x3 x4) ![192, 128] (by sl_kernel_rfl) y
  unfold kernelRun0_A.sl.v1091
  refine (View.readCov_eq_canon' _ _ _).trans ((View.ld_unit_zero (by decide) _ _).trans ?_)
  funext y
  exact View.canon_apply_of_pieces _ _ (wo_pieces c arg1 harg1 arg2 harg2 arg3 harg3 arg4 harg4 x1 x2 x3 x4).mem y (hc y)

end Cert.MlpIdeal.Value
end
-- ==== Proof.Gu.lean ====
/- The gate and up tiles of the kernel, and one trip of their loop. -/
module
public import proofs.«01_k».proof.Proof.Exit
public import proofs.«01_k».proof.Proof.Tile
@[expose] public section
set_option maxRecDepth 16384
noncomputable section
namespace Cert.MlpIdeal.Value
open Idealize.ShloMosaic Idealize.ShloMosaic.TcCoe Idealize.SL.Sem
open Cert.MlpIdeal Cert.MlpIdeal.Gen

/-- One tile of the gate and up projections: the dequantised rows against the codes. -/
def guProj (scale : FVec Ideal S192x1 .f32) (a : FVec Ideal S192x896 .bf16) (z : Vec Ideal S16x8 .i32) (s : Vec Ideal S128x8 .f32)
    (w : Vec Ideal S16x896 .i32) : FVec Ideal S192x128 .f32 :=
  proj128 scale a (deq128 (k0_pay3 (F := Ideal) z) (k0_pay4 s) (k0_pay5 w))

/-- What one trip of the loop computes: the gate tile times its logistic, times the up tile. -/
theorem guTrip (arg6 : Memref sig .tc .vmem S1216x896 .i32) (arg23 : Memref sig .tc .vmem S1216x8 .i32) (arg24 : Memref sig .tc .vmem S9728x8 .f32)
    (v1118 : FVec Ideal S192x1 .f32) (v1121 : FVec Ideal S192x896 .f32) (cst_225 : Ideal .f32)
    (X_arg6 : BufTy.Contents (Elt Ideal) arg6.view.ty) (X_arg23 : BufTy.Contents (Elt Ideal) arg23.view.ty) (X_arg24 : BufTy.Contents (Elt Ideal) arg24.view.ty)
    (k : Fin k0_t1_loop.trips) :
    trip_k0_t1.sl.v3361 (F := Ideal) arg6 arg23 arg24 v1118 v1121 cst_225 X_arg6 X_arg23 X_arg24 k =
      mulf (mulf (guProj v1118 (k0_pay102 v1121 cst_225)
            (View.ld (arg23.view.read (Elt Ideal) X_arg23) (Rect.unit (s := S1216x8) (k0_off1 k) S16x8.size (k0_off1_inb k)))
            (View.ld (arg24.view.read (Elt Ideal) X_arg24) (Rect.unit (s := S9728x8) (k0_off2 k) S128x8.size (k0_off2_inb k)))
            (View.ld (arg6.view.read (Elt Ideal) X_arg6) (Rect.unit (s := S1216x896) (k0_off3 k) S16x896.size (k0_off3_inb k))))
          (logistic (guProj v1118 (k0_pay102 v1121 cst_225)
            (View.ld (arg23.view.read (Elt Ideal) X_arg23) (Rect.unit (s := S1216x8) (k0_off1 k) S16x8.size (k0_off1_inb k)))
            (View.ld (arg24.view.read (Elt Ideal) X_arg24) (Rect.unit (s := S9728x8) (k0_off2 k) S128x8.size (k0_off2_inb k)))
            (View.ld (arg6.view.read (Elt Ideal) X_arg6) (Rect.unit (s := S1216x896) (k0_off3 k) S16x896.size (k0_off3_inb k))))))
        (guProj v1118 (k0_pay102 v1121 cst_225)
            (View.ld (arg23.view.read (Elt Ideal) X_arg23) (Rect.unit (s := S1216x8) (k0_off4 k) S16x8.size (k0_off4_inb k)))
            (View.ld (arg24.view.read (Elt Ideal) X_arg24) (Rect.unit (s := S9728x8) (k0_off5 k) S128x8.size (k0_off5_inb k)))
            (View.ld (arg6.view.read (Elt Ideal) X_arg6) (Rect.unit (s := S1216x896) (k0_off6 k) S16x896.size (k0_off6_inb k)))) := by
  rfl

/-- One entry of a tile of the gate and up projections. -/
theorem guProj_apply (scale : FVec Ideal S192x1 .f32) (a : FVec Ideal S192x896 .bf16) (z : Vec Ideal S16x8 .i32) (s : Vec Ideal S128x8 .f32)
    (w : Vec Ideal S16x896 .i32) (r : Fin 192) (j : Fin 128) :
    guProj scale a z s w (ix2 r j) = (∑ k : Fin 896, a (ix2 r k) *
      ((kN (w (ix2 ⟨j.val / 8, by omega⟩ k)) (j.val % 8) - kN (z (ix2 ⟨j.val / 8, by omega⟩ ⟨k.val / 128, by omega⟩)) (j.val % 8)) * s (ix2 j ⟨k.val / 128, by omega⟩))) * scale (ix2 r 0) := by
  unfold guProj
  rw [proj128_apply]
  refine congrArg (fun x : EReal => x * scale (ix2 r 0)) (Finset.sum_congr rfl fun k _ => ?_)
  rw [deq128_apply, nib8_apply, nib896_apply]
  pointwise [k0_pay4]

end Cert.MlpIdeal.Value
end
-- ==== Proof.Slabs.lean ====
/- What the kernel's scratch buffers hold: the gated rows, their largest magnitudes. -/
module
public import proofs.«01_k».proof.Proof.Wo
public import proofs.«01_k».proof.Proof.Gu
@[expose] public section

set_option maxRecDepth 16384
noncomputable section
namespace Cert.MlpIdeal.Value
open Idealize.ShloMosaic Idealize.ShloMosaic.TcCoe Idealize.SL.Sem
open Cert.MlpIdeal Cert.MlpIdeal.Gen Cert.Spec

variable (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
variable (x0 : Vec Ideal S192x896 .bf16) (x1 : Vec Ideal S192x896 .f32) (x2 : Vec Ideal S112x896 .i32) (x3 : Vec Ideal S7x112 .i32) (x4 : Vec Ideal S7x896 .bf16) (x5 : Vec Ideal S1x896 .f32) (x6 : Vec Ideal S1216x896 .i32) (x7 : Vec Ideal S7x1216 .i32) (x8 : Vec Ideal S7x9728 .bf16) (x9 : Vec Ideal S112x4864 .i32) (x10 : Vec Ideal S38x112 .i32) (x11 : Vec Ideal S38x896 .bf16)

/-- One entry of the gate and up projections. -/
def guEnt (scale : FVec Ideal S192x1 .f32) (a : FVec Ideal S192x896 .bf16) (r : Fin 192) (j : Fin 9728) : EReal :=
  (∑ k : Fin 896, a (ix2 r k) *
      ((kN (x6 (ix2 ⟨j.val / 8, by omega⟩ k)) (j.val % 8) - kN (x7 (ix2 ⟨k.val / 128, by omega⟩ ⟨j.val / 8, by omega⟩)) (j.val % 8))
        * x8 (ix2 ⟨k.val / 128, by omega⟩ j))) * scale (ix2 r 0)

/-- One entry of a tile computed from blocks of the packed weights. -/
theorem guTile_at (scale : FVec Ideal S192x1 .f32) (a : FVec Ideal S192x896 .bf16) (p q : ℕ) (hp : q = 8 * p) {o1 o2 o3 : Fin 2 → ℕ}
    (h1 : o1 = ![p, 0]) (h2 : o2 = ![q, 0]) (h3 : o3 = ![p, 0]) (i1 : ∀ a, o1 a + S16x8.size a ≤ S1216x8.size a)
    (i2 : ∀ a, o2 a + S128x8.size a ≤ S9728x8.size a) (i3 : ∀ a, o3 a + S16x896.size a ≤ S1216x896.size a)
    (hq : q + 128 ≤ 9728) (r : Fin 192) (j : Fin 128) :
    guProj scale a (View.ld (k0_pay103 (F := Ideal) x7) (Rect.unit (s := S1216x8) o1 S16x8.size i1)) (View.ld (k0_pay104 (F := Ideal) x8) (Rect.unit (s := S9728x8) o2 S128x8.size i2))
      (View.ld x6 (Rect.unit (s := S1216x896) o3 S16x896.size i3)) (ix2 r j) = guEnt x6 x7 x8 scale a r ⟨q + j.val, by omega⟩ := by
  subst h1 h2 h3
  have hd : (q + j.val) / 8 = p + j.val / 8 := by omega
  have hm : (q + j.val) % 8 = j.val % 8 := by omega
  unfold guEnt
  rw [guProj_apply]
  refine congrArg (fun y : EReal => y * scale (ix2 r 0)) (Finset.sum_congr rfl fun k _ => ?_)
  refine congrArg (fun y : EReal => a (ix2 r k) * y) ?_
  rw [View.ld_unit_apply_of x6 _ _ _ _ (ix2 (⟨(q + j.val) / 8, by omega⟩ : Fin 1216) k) (fun a => by fin_cases a; exacts [hd, (Nat.zero_add _).symm]),
    View.ld_unit_apply_of (Val := Elt Ideal) (e := .i32) (k0_pay103 (F := Ideal) x7) ![p, 0] S16x8.size i1 (ix2 (⟨j.val / 8, by omega⟩ : Fin 16) (⟨k.val / 128, by omega⟩ : Fin 8)) (ix2 (⟨(q + j.val) / 8, by omega⟩ : Fin 1216) (⟨k.val / 128, by omega⟩ : Fin 8)) (fun a => by fin_cases a; exacts [hd, (Nat.zero_add _).symm]),
    View.ld_unit_apply_of (Val := Elt Ideal) (e := .f32) (k0_pay104 (F := Ideal) x8) ![q, 0] S128x8.size i2 (ix2 j (⟨k.val / 128, by omega⟩ : Fin 8)) (ix2 (⟨q + j.val, by omega⟩ : Fin 9728) (⟨k.val / 128, by omega⟩ : Fin 8)) (fun a => by fin_cases a; exacts [rfl, (Nat.zero_add _).symm])]
  have e7 := pay103_apply x7 (⟨(q + j.val) / 8, by omega⟩ : Fin 1216) (⟨k.val / 128, by omega⟩ : Fin 7)
  have e8 := pay104_apply x8 (⟨q + j.val, by omega⟩ : Fin 9728) (⟨k.val / 128, by omega⟩ : Fin 7)
  dsimp only at e7 e8
  rw [e7, e8]
  simp only [hm]

/-- The gated rows. -/
def gatedEnt (scale : FVec Ideal S192x1 .f32) (a : FVec Ideal S192x896 .bf16) (r : Fin 192) : Fin 4864 → EReal :=
  gated (guEnt x6 x7 x8 scale a r)

/-- One gated entry from its gate and its up entry. -/
theorem gate_at (g u : FVec Ideal S192x128 .f32) (r : Fin 192) (j : Fin 128) :
    mulf (mulf g (logistic g)) u (ix2 r j) = g (ix2 r j) * Ideal.logistic (g (ix2 r j)) * u (ix2 r j) := by
  pointwise

/-- A vector of rows, laid out as a slab. -/
theorem pay105_apply (v : FVec Ideal S192x128 .f32) (o : Fin 1) (r : Fin 192) (j : Fin 128) :
    k0_pay105 (F := Ideal) v (ix3 o r j) = v (ix2 r j) := by
  pointwise [k0_pay105]

/-- What a whole store leaves in a buffer. -/
theorem read_fill {s : Shape} {e : EltTy} (m : Memref sig .tc .vmem s e) (x : Vec Ideal s e) {off : Fin s.rank → ℕ} (hoff : off = fun _ => 0)
    (inb : ∀ a, off a + s.size a ≤ s.size a) :
    m.view.read (Elt Ideal) (m.view.writes (Elt Ideal) m.view.junk [⟨Rect.unit off s.size inb, x⟩]) = x := by
  rw [View.read_writes_junk_eq_canon, View.canon_unit_zero hoff]

/-- One gated entry of the array that the loop fills. -/
theorem guArr_at (z : FVec Ideal S192x896 .f32) (cst : Ideal .f32) (scale : FVec Ideal S192x1 .f32) (X23 : BufTy.Contents (Elt Ideal) arg23.view.ty) (X24 : BufTy.Contents (Elt Ideal) arg24.view.ty)
    (h23 : arg23.view.read (Elt Ideal) X23 = k0_pay103 (F := Ideal) x7) (h24 : arg24.view.read (Elt Ideal) X24 = k0_pay104 (F := Ideal) x8)
    (i : Fin 38) (r : Fin 192) (j : Fin 128) :
    guArr (F := Ideal) arg6 arg23 arg24 scale z cst (harg6.unread x6) X23 X24 (ix3 i r j) =
      gatedEnt x6 x7 x8 scale (k0_pay102 (F := Ideal) z cst) r ⟨128 * i.val + j.val, by omega⟩ := by
  unfold guArr
  refine (pay105_apply _ 0 r j).trans ?_
  have ht : i.val < k0_t1_loop.trips := by rw [t1_trips]; exact i.isLt
  show trip_k0_t1.sl.v3361 (F := Ideal) arg6 arg23 arg24 scale z cst (harg6.unread x6) X23 X24 ⟨i.val, ht⟩ (ix2 r j) = _
  rw [guTrip, h23, h24, harg6.read_unread]
  refine (gate_at _ _ r j).trans ?_
  rw [guTile_at x6 x7 x8 scale _ (16 * i.val) (128 * i.val) (by omega) (k0_off1_eq ⟨i.val, ht⟩) (k0_off2_eq ⟨i.val, ht⟩) (k0_off3_eq ⟨i.val, ht⟩) _ _ _ (by omega) r j,
    guTile_at x6 x7 x8 scale _ (16 * i.val + 608) (128 * i.val + 4864) (by omega) (k0_off4_eq ⟨i.val, ht⟩) (k0_off5_eq ⟨i.val, ht⟩) (k0_off6_eq ⟨i.val, ht⟩) _ _ _ (by omega) r j]
  unfold gatedEnt gated
  have e : (⟨128 * i.val + 4864 + j.val, by omega⟩ : Fin 9728) = ⟨4864 + (128 * i.val + j.val), by omega⟩ := Fin.ext (by dsimp only; omega)
  rw [e]

end Cert.MlpIdeal.Value
end
-- ==== Proof.Acts.lean ====
/- The kernel's buffers up to the gated rows' codes, in the terms of the shared mathematics. -/
module
public import proofs.«01_k».proof.Proof.Slabs
@[expose] public section

set_option maxRecDepth 16384
noncomputable section
namespace Cert.MlpIdeal.Value
open Idealize.ShloMosaic Idealize.ShloMosaic.TcCoe Idealize.SL.Sem
open Cert.MlpIdeal Cert.MlpIdeal.Gen Cert.Spec

/-- The kernel's dequantised weight of row `k` and column `j`, its words turned. -/
def kw {K G W J : ℕ} (w : (⟨2, ![W, K]⟩ : Shape).Idx → BitVec 32) (z : (⟨2, ![G, W]⟩ : Shape).Idx → BitVec 32)
    (s : (⟨2, ![G, J]⟩ : Shape).Idx → EReal) (hJ : J = 8 * W) (hK : K = 128 * G) (k : Fin K) (j : Fin J) : EReal :=
  (kN (w (ix2 ⟨j.val / 8, by omega⟩ k)) (j.val % 8) - kN (z (ix2 ⟨k.val / 128, by omega⟩ ⟨j.val / 8, by omega⟩)) (j.val % 8))
    * s (ix2 ⟨k.val / 128, by omega⟩ j)

/-- It is the shared weight. -/
theorem kw_eq {K G W J : ℕ} (w : (⟨2, ![W, K]⟩ : Shape).Idx → BitVec 32) (q : (⟨2, ![K, W]⟩ : Shape).Idx → BitVec 32) (z : (⟨2, ![G, W]⟩ : Shape).Idx → BitVec 32)
    (s : (⟨2, ![G, J]⟩ : Shape).Idx → EReal) (hJ : J = 8 * W) (hK : K = 128 * G) (h : ∀ i k, w (ix2 i k) = q (ix2 k i)) :
    kw w z s hJ hK = awq q z s hJ hK := by
  funext k j
  unfold kw awq wt nib kN
  rw [h, code_sub _ _ _ (Nat.mod_lt _ (by norm_num))]

variable (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
variable (x0 : Vec Ideal S192x896 .bf16) (x1 : Vec Ideal S192x896 .f32) (x2 : Vec Ideal S112x896 .i32) (x3 : Vec Ideal S7x112 .i32) (x4 : Vec Ideal S7x896 .bf16) (x5 : Vec Ideal S1x896 .f32) (x6 : Vec Ideal S1216x896 .i32) (x7 : Vec Ideal S7x1216 .i32) (x8 : Vec Ideal S7x9728 .bf16) (x9 : Vec Ideal S112x4864 .i32) (x10 : Vec Ideal S38x112 .i32) (x11 : Vec Ideal S38x896 .bf16)

/-- The output projection's weights, as the kernel holds them. -/
def bWo : Fin 896 → Fin 896 → EReal := kw (K := 896) (G := 7) (W := 112) (J := 896) x2 x3 x4 rfl rfl
/-- The gate and up weights, as the kernel holds them. -/
def bWgu : Fin 896 → Fin 9728 → EReal := kw (K := 896) (G := 7) (W := 1216) (J := 9728) x6 x7 x8 rfl rfl
/-- The down weights, as the kernel holds them. -/
def bWd : Fin 4864 → Fin 896 → EReal := kw (K := 4864) (G := 38) (W := 112) (J := 896) x9 x10 x11 rfl rfl
/-- The residual stream, as the kernel holds it. -/
def bX : Fin 192 → Fin 896 → EReal := at2 (n := 192) (m := 896) (α := EReal) x0
/-- The attention rows, as the kernel holds them. -/
def bT : Fin 192 → Fin 896 → EReal := at2 (n := 192) (m := 896) (α := EReal) x1
/-- The gain, as the kernel holds it. -/
def bG : Fin 896 → EReal := at2 (n := 1) (m := 896) (α := EReal) x5 0

/-- An entry of the output projection is the shared one. -/
theorem woEnt_eq (r : Fin 192) (j : Fin 896) : woEnt x1 x2 x3 x4 r j = qproj (bT x1 r) (bWo x2 x3 x4) j := by
  unfold woEnt qproj proj
  rw [pay16_apply]
  refine congrArg (fun y : EReal => y * qs (bT x1 r)) (Finset.sum_congr rfl fun k _ => ?_)
  exact congrArg (fun y : EReal => y * bWo x2 x3 x4 k j) (pay17_apply x1 r k)

/-- The rows after the output projection. -/
theorem pay95_v (r : Fin 192) (k : Fin 896) : k0_pay95 (F := Ideal) x0 (woOut x1 x2 x3 x4) (ix2 r k) = hmid (bX x0) (bT x1) (bWo x2 x3 x4) r k := by
  unfold hmid
  rw [← woEnt_eq]
  pointwise [k0_pay95]
  rfl

/-- The normalised rows. -/
theorem pay96_v (r : Fin 192) : (fun k => k0_pay96 (F := Ideal) x0 (woOut x1 x2 x3 x4) x5 (ix2 r k)) = zrow (bX x0) (bT x1) (bWo x2 x3 x4) (bG x5) r := by
  funext k
  rw [pay96_apply]
  unfold zrow
  refine congrArg₂ (fun u v => rms u v k) (funext fun l => ?_) rfl
  unfold hmid
  rw [← woEnt_eq]
  rfl

/-- The scales of the normalised rows. -/
theorem r66_v (r : Fin 192) (o : Fin 1) : kernelRun0_A.sl.r_66 (F := Ideal) c arg0 harg0 arg1 harg1 arg2 harg2 arg3 harg3 arg4 harg4 arg5 harg5 arg21 x0 x1 x2 x3 x4 x5 (ix2 r o) = qs (zrow (bX x0) (bT x1) (bWo x2 x3 x4) (bG x5) r) := by
  unfold kernelRun0_A.sl.r_66
  rw [whole0 harg0 x0 (by decide), whole0 harg5 x5 (by decide), v1091_eq, pay97_apply, pay96_v]

/-- The codes of the normalised rows. -/
theorem r67_v (r : Fin 192) (k : Fin 896) : k0_pay99 (F := Ideal) (kernelRun0_A.sl.r_67 (F := Ideal) c arg0 harg0 arg1 harg1 arg2 harg2 arg3 harg3 arg4 harg4 arg5 harg5 arg21 x0 x1 x2 x3 x4 x5) (kernelRun0_A.sl.cst_225 (F := Ideal)) (ix2 r k) =
    qc (zrow (bX x0) (bT x1) (bWo x2 x3 x4) (bG x5) r) k := by
  unfold kernelRun0_A.sl.r_67
  rw [whole0 harg0 x0 (by decide), whole0 harg5 x5 (by decide), v1091_eq]
  refine (pay99_apply _ _ _ r k).trans ?_
  rw [pay96_v]

/-- The array that the gate and up loop fills. -/
def guScr : Vec Ideal S38x192x128 .f32 :=
  guArr (F := Ideal) arg6 arg23 arg24 (kernelRun0_A.sl.r_66 (F := Ideal) c arg0 harg0 arg1 harg1 arg2 harg2 arg3 harg3 arg4 harg4 arg5 harg5 arg21 x0 x1 x2 x3 x4 x5) (kernelRun0_A.sl.r_67 (F := Ideal) c arg0 harg0 arg1 harg1 arg2 harg2 arg3 harg3 arg4 harg4 arg5 harg5 arg21 x0 x1 x2 x3 x4 x5) (kernelRun0_A.sl.cst_225 (F := Ideal)) (harg6.unread x6)
    (arg23.view.writes (Elt Ideal) arg23.view.junk (kernelRun0_A.sl.HS2_1 (F := Ideal) c arg7 harg7 x7))
    (arg24.view.writes (Elt Ideal) arg24.view.junk (kernelRun0_A.sl.HS3_1 (F := Ideal) c arg8 harg8 x8))

/-- The gated rows of the shared mathematics at the kernel's blocks. -/
def bAct (r : Fin 192) : Fin 4864 → EReal := act (bX x0) (bT x1) (bWo x2 x3 x4) (bG x5) (bWgu x6 x7 x8) r

/-- The array holds the gated rows. -/
theorem guScr_at (i : Fin 38) (r : Fin 192) (j : Fin 128) :
    guScr c arg0 harg0 arg1 harg1 arg2 harg2 arg3 harg3 arg4 harg4 arg5 harg5 arg6 harg6 arg7 harg7 arg8 harg8 arg21 arg23 arg24 x0 x1 x2 x3 x4 x5 x6 x7 x8 (ix3 i r j) = bAct x0 x1 x2 x3 x4 x5 x6 x7 x8 r ⟨128 * i.val + j.val, by omega⟩ := by
  unfold guScr
  rw [guArr_at arg6 harg6 arg23 arg24 x6 x7 x8 _ _ _ _ _ (by
      unfold kernelRun0_A.sl.HS2_1; rw [whole0 harg7 x7 (by decide)]; exact read_fill arg23 _ (by decide) _) (by
      unfold kernelRun0_A.sl.HS3_1; rw [whole0 harg8 x8 (by decide)]; exact read_fill arg24 _ (by decide) _)]
  unfold gatedEnt bAct act
  refine congrArg (fun f => gated f _) (funext fun l => ?_)
  unfold guEnt qproj proj
  rw [r66_v]
  refine congrArg (fun y : EReal => y * qs (zrow (bX x0) (bT x1) (bWo x2 x3 x4) (bG x5) r)) (Finset.sum_congr rfl fun k _ => ?_)
  have e := r67_v c arg0 harg0 arg1 harg1 arg2 harg2 arg3 harg3 arg4 harg4 arg5 harg5 arg21 x0 x1 x2 x3 x4 x5 r k
  exact congrArg (fun y : EReal => y * bWgu x6 x7 x8 k l) e

/-- One trip of the loop over the slabs. -/
theorem amaxTrip (X22 : BufTy.Contents (Elt Ideal) arg22.view.ty) (s : FVec Ideal S192x1 .f32) (z : FVec Ideal S192x896 .f32) (cst : Ideal .f32) (k : Fin k0_t2_loop.trips) (acc : FVec Ideal S192x1 .f32) :
    tripR_k0_t2 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 s z cst X22 k acc =
      k0_pay107 (F := Ideal) acc (View.ld (arg22.view.read (Elt Ideal) X22) (Rect.unit (s := S38x192x128) (k0_off8 k) S1x192x128.size (k0_off8_inb k))) := by
  unfold tripR_k0_t2 trip_k0_t2
  rfl

/-- The loop's trips. -/
theorem t2_trips : k0_t2_loop.trips = 38 := by decide +kernel

/-- What the loop has folded before trip `n`: a bound of it bounds zero and the magnitudes of the first `n` slabs. -/
theorem amaxLoop (X22 : BufTy.Contents (Elt Ideal) arg22.view.ty) (V : Vec Ideal S38x192x128 .f32) (hV : arg22.view.read (Elt Ideal) X22 = V)
    (s : FVec Ideal S192x1 .f32) (z : FVec Ideal S192x896 .f32) (cst : Ideal .f32) (r : Fin 192) (o : Fin 1) (b : EReal) : ∀ n : ℕ, n ≤ 38 →
    (st_k0_t2 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 s z cst X22 k0_pay106 n (ix2 r o) ≤ b ↔
      (0 : EReal) ≤ b ∧ ∀ (i : Fin 38) (j : Fin 128), i.val < n → max (V (ix3 i r j)) (-(V (ix3 i r j))) ≤ b)
  | 0, _ => by
    rw [st_k0_t2_zero]
    have e : k0_pay106 (F := Ideal) (ix2 r o) = 0 := by pointwise [k0_pay106]
    rw [e]
    exact ⟨fun h => ⟨h, fun i j hi => absurd hi (Nat.not_lt_zero _)⟩, fun h => h.1⟩
  | n + 1, hn => by
    have ih := amaxLoop X22 V hV s z cst r o b n (by omega)
    have hk : n < k0_t2_loop.trips := by rw [t2_trips]; omega
    have e := st_k0_t2_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 s z cst X22 k0_pay106 ⟨n, hk⟩
    rw [amaxTrip] at e
    dsimp only at e
    rw [e, hV, pay107_apply, max_le_iff, ih]
    have el : ∀ j : Fin 128, View.ld V (Rect.unit (s := S38x192x128) (k0_off8 ⟨n, hk⟩) S1x192x128.size (k0_off8_inb ⟨n, hk⟩)) (ix3 0 r j) = V (ix3 ⟨n, by omega⟩ r j) := fun j =>
      View.ld_unit_apply_of V _ _ _ _ _ (fun a => by
        have h := congrFun (k0_off8_eq ⟨n, hk⟩) a
        rw [h]; fin_cases a; exacts [rfl, (Nat.zero_add _).symm, (Nat.zero_add _).symm])
    have ea : amax (fun j : Fin 128 => View.ld V (Rect.unit (s := S38x192x128) (k0_off8 ⟨n, hk⟩) S1x192x128.size (k0_off8_inb ⟨n, hk⟩)) (ix3 0 r j)) =
        amax (fun j : Fin 128 => V (ix3 ⟨n, by omega⟩ r j)) := congrArg amax (funext el)
    refine (and_congr_right' (iff_of_eq (congrArg (· ≤ b) ea))).trans ?_
    unfold amax
    rw [Finset.fold_max_le]
    constructor
    · rintro ⟨⟨h0, h1⟩, -, h2⟩
      refine ⟨h0, fun i j hi => ?_⟩
      by_cases hin : i.val < n
      · exact h1 i j hin
      · have := h2 j (Finset.mem_univ _)
        have ei : i = ⟨n, by omega⟩ := Fin.ext (by dsimp only; omega)
        rw [ei]
        exact this
    · rintro ⟨h0, h1⟩
      refine ⟨⟨h0, fun i j hi => h1 i j (by omega)⟩, bot_le, fun j _ => ?_⟩
      exact h1 _ j (Nat.lt_succ_self _)

/-- The magnitude of a number is not negative. -/
theorem abs_nonneg' (x : EReal) : 0 ≤ max x (-x) := by
  rcases le_total 0 x with h | h
  · exact le_max_of_le_left h
  · exact le_max_of_le_right (EReal.neg_nonneg.mpr h)

/-- The largest magnitude of the slabs is that of the row they make up. -/
theorem r68_v (r : Fin 192) (o : Fin 1) : kernelRun0_A.sl.r_68 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 (ix2 r o) = amax (bAct x0 x1 x2 x3 x4 x5 x6 x7 x8 r) := by
  unfold kernelRun0_A.sl.r_68
  refine eq_of_forall_ge_iff fun b => ?_
  refine (amaxLoop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (guScr c arg0 harg0 arg1 harg1 arg2 harg2 arg3 harg3 arg4 harg4 arg5 harg5 arg6 harg6 arg7 harg7 arg8 harg8 arg21 arg23 arg24 x0 x1 x2 x3 x4 x5 x6 x7 x8) (read_fill arg22 _ (by decide) _) _ _ _ r o b 38 le_rfl).trans ?_
  unfold amax
  rw [Finset.fold_max_le]
  constructor
  · rintro ⟨h0, h1⟩
    refine ⟨bot_le, fun k _ => ?_⟩
    have := h1 ⟨k.val / 128, by omega⟩ ⟨k.val % 128, by omega⟩ (by dsimp only; omega)
    rw [guScr_at] at this
    have ek : (⟨128 * (k.val / 128) + k.val % 128, by omega⟩ : Fin 4864) = k := Fin.ext (by dsimp only; omega)
    rwa [ek] at this
  · rintro ⟨-, h⟩
    refine ⟨(abs_nonneg' _).trans (h 0 (Finset.mem_univ _)), fun i j _ => ?_⟩
    rw [guScr_at]
    exact h _ (Finset.mem_univ _)

/-- The scales of the gated rows. -/
theorem r70_v (r : Fin 192) (o : Fin 1) : kernelRun0_A.sl.r_70 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 (ix2 r o) = qs (bAct x0 x1 x2 x3 x4 x5 x6 x7 x8 r) := by
  unfold qs
  rw [← r68_v c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 r o]
  exact pay109_apply _ r o

end Cert.MlpIdeal.Value
end
-- ==== Proof.Chunks.lean ====
/- The codes of the gated rows: the chunks stored to the result and the slabs kept for the down projection. -/
module
public import proofs.«01_k».proof.Proof.Acts
@[expose] public section

set_option maxRecDepth 16384
noncomputable section
namespace Cert.MlpIdeal.Value
open Idealize.ShloMosaic Idealize.ShloMosaic.TcCoe Idealize.SL.Sem
open Cert.MlpIdeal Cert.MlpIdeal.Gen Cert.Spec

variable (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
variable (x0 : Vec Ideal S192x896 .bf16) (x1 : Vec Ideal S192x896 .f32) (x2 : Vec Ideal S112x896 .i32) (x3 : Vec Ideal S7x112 .i32) (x4 : Vec Ideal S7x896 .bf16) (x5 : Vec Ideal S1x896 .f32) (x6 : Vec Ideal S1216x896 .i32) (x7 : Vec Ideal S7x1216 .i32) (x8 : Vec Ideal S7x9728 .bf16) (x9 : Vec Ideal S112x4864 .i32) (x10 : Vec Ideal S38x112 .i32) (x11 : Vec Ideal S38x896 .bf16)

/-- Slab `i` of the gated rows, as the kernel reads it back. -/
def slabRead (i : ℕ) (h : ∀ a, (![i, 0, 0] : Fin 3 → ℕ) a + S1x192x128.size a ≤ S38x192x128.size a) : Vec Ideal S1x192x128 .f32 :=
  arg22.view.readCov [⟨Rect.unit (s := S38x192x128) ![0, 0, 0] S38x192x128.size loopExit_k0_t1._proof_1, guScr c arg0 harg0 arg1 harg1 arg2 harg2 arg3 harg3 arg4 harg4 arg5 harg5 arg6 harg6 arg7 harg7 arg8 harg8 arg21 arg23 arg24 x0 x1 x2 x3 x4 x5 x6 x7 x8⟩]
    (Rect.unit (s := S38x192x128) ![i, 0, 0] S1x192x128.size h).toLoadRect

/-- The store of chunk `i` of the codes to the result, at column `q`. -/
def chunkPiece (i q : ℕ) (h : ∀ a, (![i, 0, 0] : Fin 3 → ℕ) a + S1x192x128.size a ≤ S38x192x128.size a)
    (hq : ∀ a, (![0, q] : Fin 2 → ℕ) a + S192x128.size a ≤ S192x4864.size a) : View.Piece (Elt Ideal) S192x4864 .i8 :=
  ⟨Rect.unit (s := S192x4864) ![0, q] S192x128.size hq, k0_pay119 (F := Ideal) (kernelRun0_A.sl.r_70 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (slabRead c arg0 harg0 arg1 harg1 arg2 harg2 arg3 harg3 arg4 harg4 arg5 harg5 arg6 harg6 arg7 harg7 arg8 harg8 arg21 arg22 arg23 arg24 x0 x1 x2 x3 x4 x5 x6 x7 x8 i h)⟩

/-- The store of chunk `i` of the codes to its slab. -/
def slabPiece (i : ℕ) (h : ∀ a, (![i, 0, 0] : Fin 3 → ℕ) a + S1x192x128.size a ≤ S38x192x128.size a) : View.Piece (Elt Ideal) S38x192x128 .bf16 :=
  ⟨Rect.unit (s := S38x192x128) ![i, 0, 0] S1x192x128.size h, k0_pay120 (F := Ideal) (kernelRun0_A.sl.r_70 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (slabRead c arg0 harg0 arg1 harg1 arg2 harg2 arg3 harg3 arg4 harg4 arg5 harg5 arg6 harg6 arg7 harg7 arg8 harg8 arg21 arg22 arg23 arg24 x0 x1 x2 x3 x4 x5 x6 x7 x8 i h)⟩

/-- A slab read back holds its part of the gated rows. -/
theorem slabRead_at (i : ℕ) (h : ∀ a, (![i, 0, 0] : Fin 3 → ℕ) a + S1x192x128.size a ≤ S38x192x128.size a) (hi : i < 38) (o : Fin 1) (r : Fin 192) (j : Fin 128) :
    slabRead c arg0 harg0 arg1 harg1 arg2 harg2 arg3 harg3 arg4 harg4 arg5 harg5 arg6 harg6 arg7 harg7 arg8 harg8 arg21 arg22 arg23 arg24 x0 x1 x2 x3 x4 x5 x6 x7 x8 i h (ix3 o r j) = bAct x0 x1 x2 x3 x4 x5 x6 x7 x8 r ⟨128 * i + j.val, by omega⟩ := by
  unfold slabRead
  rw [View.readCov_fill _ _ _ _ _ (by decide)]
  refine (View.ld_unit_apply_of _ _ _ _ _ (ix3 (⟨i, hi⟩ : Fin 38) r j) (fun a => by
    fin_cases a
    · show i = i + o.val; omega
    · exact (Nat.zero_add _).symm
    · exact (Nat.zero_add _).symm)).trans ?_
  exact guScr_at c arg0 harg0 arg1 harg1 arg2 harg2 arg3 harg3 arg4 harg4 arg5 harg5 arg6 harg6 arg7 harg7 arg8 harg8 arg21 arg23 arg24 x0 x1 x2 x3 x4 x5 x6 x7 x8 ⟨i, hi⟩ r j

/-- The codes of a chunk. -/
theorem code_at (i : ℕ) (h : ∀ a, (![i, 0, 0] : Fin 3 → ℕ) a + S1x192x128.size a ≤ S38x192x128.size a) (hi : i < 38) (r : Fin 192) (j : Fin 128) :
    k0_pay118 (F := Ideal) (kernelRun0_A.sl.r_70 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (slabRead c arg0 harg0 arg1 harg1 arg2 harg2 arg3 harg3 arg4 harg4 arg5 harg5 arg6 harg6 arg7 harg7 arg8 harg8 arg21 arg22 arg23 arg24 x0 x1 x2 x3 x4 x5 x6 x7 x8 i h) (ix2 r j) = qc (bAct x0 x1 x2 x3 x4 x5 x6 x7 x8 r) ⟨128 * i + j.val, by omega⟩ := by
  rw [pay118_apply, slabRead_at _ _ _ _ _ _ _ _ _ _ _ _ _ _ _ _ _ _ _ _ _ _ _ _ _ _ _ _ _ _ _ _ _ _ hi, r70_v]
  rfl

/-- The codes of the gated rows, slab by slab. -/
def slabCodes (y : S38x192x128.Idx) : EReal :=
  qc (bAct x0 x1 x2 x3 x4 x5 x6 x7 x8 ⟨(y 1).val, (y 1).isLt⟩) ⟨128 * (y 0).val + (y 2).val, by
    have h0 : (y 0).val < 38 := (y 0).isLt
    have h2 : (y 2).val < 128 := (y 2).isLt
    omega⟩

/-- The codes of the gated rows. -/
def rowCodes (y : S192x4864.Idx) : EReal := qc (bAct x0 x1 x2 x3 x4 x5 x6 x7 x8 ⟨(y 0).val, (y 0).isLt⟩) ⟨(y 1).val, (y 1).isLt⟩

/-- A chunk's store to its slab is a block of the codes. -/
theorem slabPiece_block (i : ℕ) (h : ∀ a, (![i, 0, 0] : Fin 3 → ℕ) a + S1x192x128.size a ≤ S38x192x128.size a) (hi : i < 38)
    (x : (slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 i h).1.shape.Idx) :
    (slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 i h).2 x = slabCodes x0 x1 x2 x3 x4 x5 x6 x7 x8 ((slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 i h).1.emb x) := by
  unfold slabPiece at x ⊢
  have hx0 : (x 0).val < 1 := (x 0).isLt
  have hx1 : (x 1).val < 192 := (x 1).isLt
  have hx2 : (x 2).val < 128 := (x 2).isLt
  have e0 : ((Rect.unit (s := S38x192x128) ![i, 0, 0] S1x192x128.size h).emb x 0).val = i :=
    (ValueKit.rect_emb_unit_val ..).trans (by show i + (x 0).val = i; omega)
  have e1 : ((Rect.unit (s := S38x192x128) ![i, 0, 0] S1x192x128.size h).emb x 1).val = (x 1).val :=
    (ValueKit.rect_emb_unit_val ..).trans (Nat.zero_add _)
  have e2 : ((Rect.unit (s := S38x192x128) ![i, 0, 0] S1x192x128.size h).emb x 2).val = (x 2).val :=
    (ValueKit.rect_emb_unit_val ..).trans (Nat.zero_add _)
  have ex : x = ix3 (⟨(x 0).val, hx0⟩ : Fin 1) (⟨(x 1).val, hx1⟩ : Fin 192) (⟨(x 2).val, hx2⟩ : Fin 128) := by
    funext a; fin_cases a <;> rfl
  unfold slabCodes
  simp only [e0, e1, e2]
  have e3 := pay120_apply (kernelRun0_A.sl.r_70 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (slabRead c arg0 harg0 arg1 harg1 arg2 harg2 arg3 harg3 arg4 harg4 arg5 harg5 arg6 harg6 arg7 harg7 arg8 harg8 arg21 arg22 arg23 arg24 x0 x1 x2 x3 x4 x5 x6 x7 x8 i h) ⟨(x 1).val, hx1⟩ ⟨(x 2).val, hx2⟩ ⟨(x 0).val, hx0⟩
  rw [code_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 i h hi] at e3
  exact (congrArg (k0_pay120 (F := Ideal) (kernelRun0_A.sl.r_70 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (slabRead c arg0 harg0 arg1 harg1 arg2 harg2 arg3 harg3 arg4 harg4 arg5 harg5 arg6 harg6 arg7 harg7 arg8 harg8 arg21 arg22 arg23 arg24 x0 x1 x2 x3 x4 x5 x6 x7 x8 i h)) ex).trans e3

/-- A chunk's store to the result is a block of the codes. -/
theorem chunkPiece_block (i q : ℕ) (hiq : q = 128 * i) (h : ∀ a, (![i, 0, 0] : Fin 3 → ℕ) a + S1x192x128.size a ≤ S38x192x128.size a)
    (hq : ∀ a, (![0, q] : Fin 2 → ℕ) a + S192x128.size a ≤ S192x4864.size a) (hi : i < 38)
    (x : (chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 i q h hq).1.shape.Idx) :
    (chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 i q h hq).2 x = fptosi (F := Ideal) (φ := .f32) 8 (rowCodes x0 x1 x2 x3 x4 x5 x6 x7 x8) ((chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 i q h hq).1.emb x) := by
  subst hiq
  unfold chunkPiece at x ⊢
  have hx0 : (x 0).val < 192 := (x 0).isLt
  have hx1 : (x 1).val < 128 := (x 1).isLt
  have e0 : ((Rect.unit (s := S192x4864) ![0, 128 * i] S192x128.size hq).emb x 0).val = (x 0).val :=
    (ValueKit.rect_emb_unit_val ..).trans (Nat.zero_add _)
  have e1 : ((Rect.unit (s := S192x4864) ![0, 128 * i] S192x128.size hq).emb x 1).val = 128 * i + (x 1).val :=
    ValueKit.rect_emb_unit_val ..
  have ex : x = ix2 (⟨(x 0).val, hx0⟩ : Fin 192) (⟨(x 1).val, hx1⟩ : Fin 128) := by
    funext a; fin_cases a <;> rfl
  have ec := (congrArg (k0_pay118 (F := Ideal) (kernelRun0_A.sl.r_70 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (slabRead c arg0 harg0 arg1 harg1 arg2 harg2 arg3 harg3 arg4 harg4 arg5 harg5 arg6 harg6 arg7 harg7 arg8 harg8 arg21 arg22 arg23 arg24 x0 x1 x2 x3 x4 x5 x6 x7 x8 i h)) ex).trans
    (code_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 i h hi ⟨(x 0).val, hx0⟩ ⟨(x 1).val, hx1⟩)
  have er : rowCodes x0 x1 x2 x3 x4 x5 x6 x7 x8 ((Rect.unit (s := S192x4864) ![0, 128 * i] S192x128.size hq).emb x) =
      qc (bAct x0 x1 x2 x3 x4 x5 x6 x7 x8 ⟨(x 0).val, hx0⟩) ⟨128 * i + (x 1).val, by omega⟩ := by
    unfold rowCodes
    simp only [e0, e1]
  exact congrArg (FloatOps.fptosi (F := Ideal) (φ := .f32) 8) (ec.trans er.symm)

set_option maxHeartbeats 0 in
/-- The stores to the slabs. -/
theorem slab_stores : kernelRun0_A.sl.HS4_38 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 =
    [slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 37 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 36 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 35 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 34 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 33 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 32 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 31 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 30 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 29 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 28 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 27 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 26 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 25 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 24 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 23 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 22 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 21 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 20 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 19 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 18 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 17 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 16 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 15 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 14 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 13 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 12 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 11 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 10 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 9 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 8 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 7 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 6 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 5 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 4 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 3 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 2 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 1 (by decide),
      slabPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 0 (by decide)] := by
  unfold kernelRun0_A.sl.HS4_38
  rfl

/-- The stores to the slabs are blocks of the codes. -/
theorem slab_pieces : View.PiecesOf (slabCodes x0 x1 x2 x3 x4 x5 x6 x7 x8) (kernelRun0_A.sl.HS4_38 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) := by
  have h := slabPiece_block c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8
  rw [slab_stores]
  exact ⟨h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), h _ _ (by norm_num), trivial⟩

set_option maxHeartbeats 0 in
/-- The stores to the result. -/
theorem chunk_stores : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.2.1 =
    [chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 37 4736 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 36 4608 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 35 4480 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 34 4352 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 33 4224 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 32 4096 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 31 3968 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 30 3840 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 29 3712 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 28 3584 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 27 3456 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 26 3328 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 25 3200 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 24 3072 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 23 2944 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 22 2816 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 21 2688 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 20 2560 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 19 2432 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 18 2304 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 17 2176 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 16 2048 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 15 1920 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 14 1792 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 13 1664 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 12 1536 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 11 1408 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 10 1280 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 9 1152 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 8 1024 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 7 896 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 6 768 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 5 640 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 4 512 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 3 384 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 2 256 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 1 128 (by decide) (by decide),
      chunkPiece c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 0 0 (by decide) (by decide)] := by
  rfl

/-- The stores to the result are blocks of the codes. -/
theorem chunk_pieces : View.PiecesOf (fptosi (F := Ideal) (φ := .f32) 8 (rowCodes x0 x1 x2 x3 x4 x5 x6 x7 x8)) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.2.1 := by
  have h := chunkPiece_block c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8
  rw [chunk_stores]
  exact ⟨h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), h _ _ rfl _ _ (by norm_num), trivial⟩

end Cert.MlpIdeal.Value
end
-- ==== Proof.Down.lean ====
/- The down projection: one tile of 256 rows of the weights at a time, added up in a buffer. -/
module
public import proofs.«01_k».proof.Proof.Chunks
@[expose] public section

set_option maxRecDepth 16384
noncomputable section
namespace Cert.MlpIdeal.Value
open Idealize.ShloMosaic Idealize.ShloMosaic.TcCoe Idealize.SL.Sem
open Cert.MlpIdeal Cert.MlpIdeal.Gen Cert.Spec

/-- One group of 128 rows of the dequantised weights: codes less zero points, times scales. -/
def deqHalf (z s : FVec Ideal S896x40 .bf16) (a : ℕ) (ha : S896x40.Slices ![0, a] S896x1) (w : FVec Ideal S896x128 .bf16) : FVec Ideal S896x128 .bf16 :=
  mulf (subf w (broadcastTo S896x128 (shapeCast S896x1 (extractStridedSlice S896x1 ![0, a] z ha) shapeCasts_S896x1_S896x1) broadcasts_S896x1_S896x128))
    (broadcastTo S896x128 (shapeCast S896x1 (extractStridedSlice S896x1 ![0, a] s ha) shapeCasts_S896x1_S896x1) broadcasts_S896x1_S896x128)

/-- Two groups of the dequantised weights, side by side. -/
def deqTwo (z s : FVec Ideal S896x40 .bf16) (a b : ℕ) (ha : S896x40.Slices ![0, a] S896x1) (hb : S896x40.Slices ![0, b] S896x1)
    (w : FVec Ideal S896x256 .bf16) : FVec Ideal S896x256 .bf16 :=
  concatenate S896x256 1 [⟨S896x128, deqHalf z s a ha (extractStridedSlice S896x128 ![0, 0] w slices_S896x256_o0_0_S896x128)⟩,
    ⟨S896x128, deqHalf z s b hb (extractStridedSlice S896x128 ![0, 128] w slices_S896x256_o0_128_S896x128)⟩] concatenates_S896x128_S896x128_S896x256_d1

/-- One step of the down projection. -/
def downStep (z s : FVec Ideal S896x40 .bf16) (a b : ℕ) (ha : S896x40.Slices ![0, a] S896x1) (hb : S896x40.Slices ![0, b] S896x1)
    (v : FVec Ideal S192x256 .bf16) (acc : Vec Ideal S192x896 .f32) (w : FVec Ideal S896x256 .bf16) : FVec Ideal S192x896 .f32 :=
  shapeCast S192x896 (addf (φ := .f32) acc (matmul dot_S192x256_S896x256_S192x896_1_1_0_0_n_n none v (deqTwo z s a b ha hb w) (constant S192x896 .f32 0x00000000#32))) shapeCasts_S192x896_S192x896

/-- An entry of one group of dequantised weights. -/
theorem deqHalf_apply (z s : FVec Ideal S896x40 .bf16) (a : ℕ) (ha : S896x40.Slices ![0, a] S896x1) (w : FVec Ideal S896x128 .bf16) (k : Fin 896) (l : Fin 128) (h : a < 40) :
    deqHalf z s a ha w (ix2 k l) = (w (ix2 k l) - z (ix2 k ⟨a, h⟩)) * s (ix2 k ⟨a, h⟩) := by
  pointwise [deqHalf]

/-- An entry of two groups of dequantised weights. -/
theorem deqTwo_apply (z s : FVec Ideal S896x40 .bf16) (a b : ℕ) (ha : S896x40.Slices ![0, a] S896x1) (hb : S896x40.Slices ![0, b] S896x1)
    (w : FVec Ideal S896x256 .bf16) (hab : b = a + 1) (h : b < 40) (k : Fin 896) (l : Fin 256) :
    deqTwo z s a b ha hb w (ix2 k l) = (w (ix2 k l) - z (ix2 k ⟨a + l.val / 128, by omega⟩)) * s (ix2 k ⟨a + l.val / 128, by omega⟩) := by
  subst hab
  by_cases hl : l.val < 128
  · have e : (⟨a + l.val / 128, by omega⟩ : Fin 40) = ⟨a, by omega⟩ := Fin.ext (by dsimp only; omega)
    rw [e]
    pointwise [deqTwo]
    rw [dif_pos hl, deqHalf_apply _ _ _ _ _ _ _ (by omega)]
    pointwise
  · have e : (⟨a + l.val / 128, by omega⟩ : Fin 40) = ⟨a + 1, by omega⟩ := Fin.ext (by dsimp only; omega)
    rw [e]
    pointwise [deqTwo]
    rw [dif_neg hl, deqHalf_apply _ _ _ _ _ _ _ (by omega)]
    pointwise
    have el : (⟨128 + (l.val - 128), by omega⟩ : Fin 256) = l := Fin.ext (by dsimp only; omega)
    rw [el]

/-- An entry of one step. -/
theorem downStep_apply (z s : FVec Ideal S896x40 .bf16) (a b : ℕ) (ha : S896x40.Slices ![0, a] S896x1) (hb : S896x40.Slices ![0, b] S896x1)
    (v : FVec Ideal S192x256 .bf16) (acc : Vec Ideal S192x896 .f32) (w : FVec Ideal S896x256 .bf16) (r : Fin 192) (k : Fin 896) :
    downStep z s a b ha hb v acc w (ix2 r k) = acc (ix2 r k) + ∑ l : Fin 256, v (ix2 r l) * deqTwo z s a b ha hb w (ix2 k l) := by
  pointwise [downStep]

/-- Two slabs of codes, side by side. -/
theorem pay246_apply (u v : Vec Ideal S1x192x128 .bf16) (r : Fin 192) (l : Fin 256) :
    k0_pay246 (F := Ideal) u v (ix2 r l) = if h : l.val < 128 then u (ix3 0 r ⟨l.val, h⟩) else v (ix3 0 r ⟨l.val - 128, by omega⟩) := by
  pointwise [k0_pay246]

/-- Unpacking a block of packed weights. -/
theorem pay247_apply (w : Vec Ideal S112x256 .i32) (i : Fin 896) (j : Fin 256) :
    k0_pay247 (F := Ideal) w (ix2 i j) = kN (w (ix2 ⟨i.val / 8, by omega⟩ j)) (i.val % 8) := by
  unfold kN kernelNibble natural
  pointwise [k0_pay247]
  rfl

/-- Unpacking the zero points. -/
theorem pay239_apply (w : Vec Ideal S38x112 .i32) (i : Fin 896) (j : Fin 40) (h : j.val < 38) :
    k0_pay239 (F := Ideal) (k0_pay238 (F := Ideal) w) (ix2 i j) = kN (w (ix2 ⟨j.val, h⟩ ⟨i.val / 8, by omega⟩)) (i.val % 8) := by
  unfold kN kernelNibble natural
  pointwise [k0_pay239, k0_pay238]
  rw [dif_pos h]
  rfl

/-- The scales, turned. -/
theorem pay240_apply (w : Vec Ideal S38x896 .bf16) (i : Fin 896) (j : Fin 40) (h : j.val < 38) :
    k0_pay240 (F := Ideal) (k0_pay237 (F := Ideal) w) (ix2 i j) = w (ix2 ⟨j.val, h⟩ i) := by
  pointwise [k0_pay240, k0_pay237]
  rw [dif_pos h]

/-- The sum starts at zero. -/
theorem pay241_apply (r : Fin 192) (k : Fin 896) : k0_pay241 (F := Ideal) (ix2 r k) = 0 := by
  pointwise [k0_pay241]

variable (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
variable (x0 : Vec Ideal S192x896 .bf16) (x1 : Vec Ideal S192x896 .f32) (x2 : Vec Ideal S112x896 .i32) (x3 : Vec Ideal S7x112 .i32) (x4 : Vec Ideal S7x896 .bf16) (x5 : Vec Ideal S1x896 .f32) (x6 : Vec Ideal S1216x896 .i32) (x7 : Vec Ideal S7x1216 .i32) (x8 : Vec Ideal S7x9728 .bf16) (x9 : Vec Ideal S112x4864 .i32) (x10 : Vec Ideal S38x112 .i32) (x11 : Vec Ideal S38x896 .bf16)

/-- Slab `i` of the codes, as the kernel reads it back. -/
def codeRead (i : ℕ) (h : ∀ a, (![i, 0, 0] : Fin 3 → ℕ) a + S1x192x128.size a ≤ S38x192x128.size a) : Vec Ideal S1x192x128 .bf16 :=
  arg25.view.readCov (kernelRun0_A.sl.HS4_38 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (Rect.unit (s := S38x192x128) ![i, 0, 0] S1x192x128.size h).toLoadRect

set_option maxHeartbeats 0 in
/-- A slab of codes read back. -/
theorem codeRead_at (i : ℕ) (h : ∀ a, (![i, 0, 0] : Fin 3 → ℕ) a + S1x192x128.size a ≤ S38x192x128.size a) (hi : i < 38) (o : Fin 1) (r : Fin 192) (j : Fin 128) :
    codeRead c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 i h (ix3 o r j) = qc (bAct x0 x1 x2 x3 x4 x5 x6 x7 x8 r) ⟨128 * i + j.val, by omega⟩ := by
  unfold codeRead
  refine (congrFun (View.readCov_eq_canon' _ _ _) _).trans ?_
  refine (View.ld_unit_apply_of (Val := Elt Ideal) (e := .bf16) _ _ _ _ _ (ix3 (⟨i, hi⟩ : Fin 38) r j) (fun a => by
    fin_cases a
    · show i = i + o.val; omega
    · exact (Nat.zero_add _).symm
    · exact (Nat.zero_add _).symm)).trans ?_
  refine (View.canon_apply_of_pieces _ _ (slab_pieces c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8).mem _ ?_).trans ?_
  · rw [slab_stores]
    exact View.cover_of_tiledL _ ![1, 192, 128] (by sl_kernel_rfl) _
  · rfl

/-- One step of the kernel's down projection. -/
def stepVal (a b q : ℕ) (ha : S896x40.Slices ![0, a] S896x1) (hb : S896x40.Slices ![0, b] S896x1) (h0 : ∀ x, (![a, 0, 0] : Fin 3 → ℕ) x + S1x192x128.size x ≤ S38x192x128.size x) (h1 : ∀ x, (![b, 0, 0] : Fin 3 → ℕ) x + S1x192x128.size x ≤ S38x192x128.size x) (hq : ∀ x, (![0, q] : Fin 2 → ℕ) x + S112x256.size x ≤ S112x4864.size x)
    (acc : Vec Ideal S192x896 .f32) : Vec Ideal S192x896 .f32 :=
  downStep (k0_pay239 (F := Ideal) (k0_pay238 (F := Ideal) (View.readAt (Elt Ideal) arg10.view (Rect.unit (s := S38x112) ![0, 0] S38x112.size (by decide)).toLoadRect (harg10.unread x10))))
    (k0_pay240 (F := Ideal) (k0_pay237 (F := Ideal) (View.readAt (Elt Ideal) arg11.view (Rect.unit (s := S38x896) ![0, 0] S38x896.size (by decide)).toLoadRect (harg11.unread x11)))) a b ha hb
    (k0_pay246 (F := Ideal) (codeRead c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 a h0) (codeRead c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 b h1)) acc
    (k0_pay247 (F := Ideal) (View.readAt (Elt Ideal) arg9.view (Rect.unit (s := S112x4864) ![0, q] S112x256.size hq).toLoadRect (harg9.unread x9)))

/-- What tile `t` adds to an entry of the down projection. -/
def tileSum (t : ℕ) (r : Fin 192) (k : Fin 896) : EReal :=
  ∑ l : Fin 256, if h : t * 256 + l.val < 4864 then qc (bAct x0 x1 x2 x3 x4 x5 x6 x7 x8 r) ⟨t * 256 + l.val, h⟩ * bWd x9 x10 x11 ⟨t * 256 + l.val, h⟩ k else 0

/-- A step adds its tile. -/
theorem stepVal_at (i a b q : ℕ) (ha : S896x40.Slices ![0, a] S896x1) (hb : S896x40.Slices ![0, b] S896x1) (h0 : ∀ x, (![a, 0, 0] : Fin 3 → ℕ) x + S1x192x128.size x ≤ S38x192x128.size x) (h1 : ∀ x, (![b, 0, 0] : Fin 3 → ℕ) x + S1x192x128.size x ≤ S38x192x128.size x) (hq : ∀ x, (![0, q] : Fin 2 → ℕ) x + S112x256.size x ≤ S112x4864.size x)
    (hia : a = 2 * i) (hib : b = 2 * i + 1) (hiq : q = 256 * i) (hi : i < 19) (acc : Vec Ideal S192x896 .f32) (r : Fin 192) (k : Fin 896) :
    stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 a b q ha hb h0 h1 hq acc (ix2 r k) = acc (ix2 r k) + tileSum x0 x1 x2 x3 x4 x5 x6 x7 x8 x9 x10 x11 i r k := by
  subst hia hib hiq
  unfold stepVal tileSum
  rw [downStep_apply]
  refine congrArg (fun e : EReal => acc (ix2 r k) + e) (Finset.sum_congr rfl fun l _ => ?_)
  have hl : i * 256 + l.val < 4864 := by omega
  rw [dif_pos hl]
  have e1 : k0_pay246 (F := Ideal) (codeRead c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 (2 * i) h0) (codeRead c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 (2 * i + 1) h1) (ix2 r l) = qc (bAct x0 x1 x2 x3 x4 x5 x6 x7 x8 r) ⟨i * 256 + l.val, hl⟩ := by
    rw [pay246_apply]
    split_ifs with hc
    · refine (codeRead_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 (2 * i) h0 (by omega) _ _ _).trans (congrArg (qc (bAct x0 x1 x2 x3 x4 x5 x6 x7 x8 r)) (Fin.ext ?_))
      dsimp only; omega
    · refine (codeRead_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 (2 * i + 1) h1 (by omega) _ _ _).trans (congrArg (qc (bAct x0 x1 x2 x3 x4 x5 x6 x7 x8 r)) (Fin.ext ?_))
      dsimp only; omega
  rw [e1]
  refine congrArg (fun e : EReal => qc (bAct x0 x1 x2 x3 x4 x5 x6 x7 x8 r) ⟨i * 256 + l.val, hl⟩ * e) ?_
  rw [deqTwo_apply _ _ _ _ _ _ _ rfl (by omega), whole0 harg10 x10 (by decide), whole0 harg11 x11 (by decide), pay247_apply, pay239_apply _ _ _ (by dsimp only; omega), pay240_apply _ _ _ (by dsimp only; omega),
    View.readAt_eq_ld, harg9.read_unread,
    View.ld_unit_apply_of (Val := Elt Ideal) (e := .i32) x9 _ _ _ _ (ix2 (⟨k.val / 8, by omega⟩ : Fin 112) (⟨i * 256 + l.val, hl⟩ : Fin 4864)) (fun a => by
      fin_cases a
      · exact (Nat.zero_add _).symm
      · show i * 256 + l.val = 256 * i + l.val; omega)]
  have hg : 2 * i + l.val / 128 = (i * 256 + l.val) / 128 := by omega
  unfold bWd kw
  simp only [hg]

/-- Reading back the buffer after a step. -/
theorem step_back (i a b q : ℕ) (ha : S896x40.Slices ![0, a] S896x1) (hb : S896x40.Slices ![0, b] S896x1) (h0 : ∀ x, (![a, 0, 0] : Fin 3 → ℕ) x + S1x192x128.size x ≤ S38x192x128.size x) (h1 : ∀ x, (![b, 0, 0] : Fin 3 → ℕ) x + S1x192x128.size x ≤ S38x192x128.size x) (hq : ∀ x, (![0, q] : Fin 2 → ℕ) x + S112x256.size x ≤ S112x4864.size x) (L : List (View.Piece (Elt Ideal) S192x896 .f32))
    (hia : a = 2 * i) (hib : b = 2 * i + 1) (hiq : q = 256 * i) (hi : i < 19) (acc : Vec Ideal S192x896 .f32)
    (hacc : ∀ r k, acc (ix2 r k) = ∑ t ∈ Finset.range i, tileSum x0 x1 x2 x3 x4 x5 x6 x7 x8 x9 x10 x11 t r k) (r : Fin 192) (k : Fin 896) :
    (arg21.view.readCov (⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 a b q ha hb h0 h1 hq acc⟩ :: L)
      (Rect.unit (s := S192x896) ![0, 0] S192x896.size (by decide)).toLoadRect : Vec Ideal S192x896 .f32) (ix2 r k) = ∑ t ∈ Finset.range (i + 1), tileSum x0 x1 x2 x3 x4 x5 x6 x7 x8 x9 x10 x11 t r k := by
  rw [View.readCov_fill _ _ _ _ _ (by decide), View.ld_unit_zero (by decide), stepVal_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 i a b q ha hb h0 h1 hq hia hib hiq hi, hacc, Finset.sum_range_succ]

end Cert.MlpIdeal.Value
end
-- ==== Proof.Sum.lean ====
/- The nineteen steps of the down projection, and what the residual stream holds after them. -/
module
public import proofs.«01_k».proof.Proof.Down
@[expose] public section

set_option maxRecDepth 16384
noncomputable section
namespace Cert.MlpIdeal.Value
open Idealize.ShloMosaic Idealize.ShloMosaic.TcCoe Idealize.SL.Sem
open Cert.MlpIdeal Cert.MlpIdeal.Gen Cert.Spec

variable (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
variable (x0 : Vec Ideal S192x896 .bf16) (x1 : Vec Ideal S192x896 .f32) (x2 : Vec Ideal S112x896 .i32) (x3 : Vec Ideal S7x112 .i32) (x4 : Vec Ideal S7x896 .bf16) (x5 : Vec Ideal S1x896 .f32) (x6 : Vec Ideal S1216x896 .i32) (x7 : Vec Ideal S7x1216 .i32) (x8 : Vec Ideal S7x9728 .bf16) (x9 : Vec Ideal S112x4864 .i32) (x10 : Vec Ideal S38x112 .i32) (x11 : Vec Ideal S38x896 .bf16)
/-- The buffer before the first step. -/
theorem start_back (r : Fin 192) (k : Fin 896) : kernelRun0_A.sl.v1784 (F := Ideal) c arg1 harg1 arg2 harg2 arg3 harg3 arg4 harg4 arg21 x1 x2 x3 x4 (ix2 r k) = 0 := by
  unfold kernelRun0_A.sl.v1784 kernelRun0_A.sl.HS0_8
  rw [View.readCov_fill _ _ _ _ _ (by decide), View.ld_unit_zero (by decide)]
  exact pay241_apply r k

set_option maxHeartbeats 0 in
set_option maxHeartbeats 0 in
/-- The buffer after the last step: all tiles. -/
theorem last_back (r : Fin 192) (k : Fin 896) : (kernelRun0_A.sl.v3052 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 19, tileSum x0 x1 x2 x3 x4 x5 x6 x7 x8 x9 x10 x11 t r k := by
  have e0 : ∀ (r : Fin 192) (k : Fin 896), (kernelRun0_A.sl.v1784 (F := Ideal) c arg1 harg1 arg2 harg2 arg3 harg3 arg4 harg4 arg21 x1 x2 x3 x4) (ix2 r k) = ∑ t ∈ Finset.range 0, tileSum x0 x1 x2 x3 x4 x5 x6 x7 x8 x9 x10 x11 t r k := fun r k =>
    (start_back c arg1 harg1 arg2 harg2 arg3 harg3 arg4 harg4 arg21 x1 x2 x3 x4 r k).trans (Finset.sum_range_zero _).symm
  have e1 : ∀ (r : Fin 192) (k : Fin 896), (kernelRun0_A.sl.v1851 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 1, tileSum x0 x1 x2 x3 x4 x5 x6 x7 x8 x9 x10 x11 t r k := by
    have h : (kernelRun0_A.sl.HS0_9 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 0 1 0 (by decide) (by decide) (by decide) (by decide) (by decide) (kernelRun0_A.sl.v1784 (F := Ideal) c arg1 harg1 arg2 harg2 arg3 harg3 arg4 harg4 arg21 x1 x2 x3 x4)⟩ :: (kernelRun0_A.sl.HS0_8 (F := Ideal) c arg1 harg1 arg2 harg2 arg3 harg3 arg4 harg4 x1 x2 x3 x4) := by
      unfold kernelRun0_A.sl.HS0_9
      rfl
    unfold kernelRun0_A.sl.v1851
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 0 0 1 0 (by decide) (by decide) (by decide) (by decide) (by decide) (kernelRun0_A.sl.HS0_8 (F := Ideal) c arg1 harg1 arg2 harg2 arg3 harg3 arg4 harg4 x1 x2 x3 x4) rfl rfl rfl (by norm_num) (kernelRun0_A.sl.v1784 (F := Ideal) c arg1 harg1 arg2 harg2 arg3 harg3 arg4 harg4 arg21 x1 x2 x3 x4) e0
  have e2 : ∀ (r : Fin 192) (k : Fin 896), (kernelRun0_A.sl.v1918 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 2, tileSum x0 x1 x2 x3 x4 x5 x6 x7 x8 x9 x10 x11 t r k := by
    have h : (kernelRun0_A.sl.HS0_10 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 2 3 256 (by decide) (by decide) (by decide) (by decide) (by decide) (kernelRun0_A.sl.v1851 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_9 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_10
      rfl
    unfold kernelRun0_A.sl.v1918
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 1 2 3 256 (by decide) (by decide) (by decide) (by decide) (by decide) (kernelRun0_A.sl.HS0_9 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v1851 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e1
  have e3 : ∀ (r : Fin 192) (k : Fin 896), (kernelRun0_A.sl.v1985 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 3, tileSum x0 x1 x2 x3 x4 x5 x6 x7 x8 x9 x10 x11 t r k := by
    have h : (kernelRun0_A.sl.HS0_11 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 4 5 512 (by decide) (by decide) (by decide) (by decide) (by decide) (kernelRun0_A.sl.v1918 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_10 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_11
      rfl
    unfold kernelRun0_A.sl.v1985
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 2 4 5 512 (by decide) (by decide) (by decide) (by decide) (by decide) (kernelRun0_A.sl.HS0_10 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v1918 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e2
  have e4 : ∀ (r : Fin 192) (k : Fin 896), (kernelRun0_A.sl.v2052 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 4, tileSum x0 x1 x2 x3 x4 x5 x6 x7 x8 x9 x10 x11 t r k := by
    have h : (kernelRun0_A.sl.HS0_12 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 6 7 768 (by decide) (by decide) (by decide) (by decide) (by decide) (kernelRun0_A.sl.v1985 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_11 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_12
      rfl
    unfold kernelRun0_A.sl.v2052
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 3 6 7 768 (by decide) (by decide) (by decide) (by decide) (by decide) (kernelRun0_A.sl.HS0_11 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v1985 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e3
  have e5 : ∀ (r : Fin 192) (k : Fin 896), (kernelRun0_A.sl.v2119 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 5, tileSum x0 x1 x2 x3 x4 x5 x6 x7 x8 x9 x10 x11 t r k := by
    have h : (kernelRun0_A.sl.HS0_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 8 9 1024 (by decide) (by decide) (by decide) (by decide) (by decide) (kernelRun0_A.sl.v2052 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_12 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_13
      rfl
    unfold kernelRun0_A.sl.v2119
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 4 8 9 1024 (by decide) (by decide) (by decide) (by decide) (by decide) (kernelRun0_A.sl.HS0_12 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2052 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e4
  have e6 : ∀ (r : Fin 192) (k : Fin 896), (kernelRun0_A.sl.v2186 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 6, tileSum x0 x1 x2 x3 x4 x5 x6 x7 x8 x9 x10 x11 t r k := by
    have h : (kernelRun0_A.sl.HS0_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 10 11 1280 (by decide) (by decide) (by decide) (by decide) (by decide) (kernelRun0_A.sl.v2119 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_14
      rfl
    unfold kernelRun0_A.sl.v2186
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 5 10 11 1280 (by decide) (by decide) (by decide) (by decide) (by decide) (kernelRun0_A.sl.HS0_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2119 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e5
  have e7 : ∀ (r : Fin 192) (k : Fin 896), (kernelRun0_A.sl.v2253 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 7, tileSum x0 x1 x2 x3 x4 x5 x6 x7 x8 x9 x10 x11 t r k := by
    have h : (kernelRun0_A.sl.HS0_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 12 13 1536 (by decide) (by decide) (by decide) (by decide) (by decide) (kernelRun0_A.sl.v2186 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_15
      rfl
    unfold kernelRun0_A.sl.v2253
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 6 12 13 1536 (by decide) (by decide) (by decide) (by decide) (by decide) (kernelRun0_A.sl.HS0_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2186 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e6
  have e8 : ∀ (r : Fin 192) (k : Fin 896), (kernelRun0_A.sl.v2320 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 8, tileSum x0 x1 x2 x3 x4 x5 x6 x7 x8 x9 x10 x11 t r k := by
    have h : (kernelRun0_A.sl.HS0_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 14 15 1792 (by decide) (by decide) (by decide) (by decide) (by decide) (kernelRun0_A.sl.v2253 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_16
      rfl
    unfold kernelRun0_A.sl.v2320
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 7 14 15 1792 (by decide) (by decide) (by decide) (by decide) (by decide) (kernelRun0_A.sl.HS0_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2253 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e7
  have e9 : ∀ (r : Fin 192) (k : Fin 896), (kernelRun0_A.sl.v2387 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 9, tileSum x0 x1 x2 x3 x4 x5 x6 x7 x8 x9 x10 x11 t r k := by
    have h : (kernelRun0_A.sl.HS0_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 16 17 2048 (by decide) (by decide) (by decide) (by decide) (by decide) (kernelRun0_A.sl.v2320 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_17
      rfl
    unfold kernelRun0_A.sl.v2387
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 8 16 17 2048 (by decide) (by decide) (by decide) (by decide) (by decide) (kernelRun0_A.sl.HS0_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2320 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e8
  have e10 : ∀ (r : Fin 192) (k : Fin 896), (kernelRun0_A.sl.v2454 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 10, tileSum x0 x1 x2 x3 x4 x5 x6 x7 x8 x9 x10 x11 t r k := by
    have h : (kernelRun0_A.sl.HS0_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 18 19 2304 (by decide) (by decide) (by decide) (by decide) (by decide) (kernelRun0_A.sl.v2387 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_18
      rfl
    unfold kernelRun0_A.sl.v2454
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 9 18 19 2304 (by decide) (by decide) (by decide) (by decide) (by decide) (kernelRun0_A.sl.HS0_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2387 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e9
  have e11 : ∀ (r : Fin 192) (k : Fin 896), (kernelRun0_A.sl.v2521 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 11, tileSum x0 x1 x2 x3 x4 x5 x6 x7 x8 x9 x10 x11 t r k := by
    have h : (kernelRun0_A.sl.HS0_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 20 21 2560 (by decide) (by decide) (by decide) (by decide) (by decide) (kernelRun0_A.sl.v2454 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_19
      rfl
    unfold kernelRun0_A.sl.v2521
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 10 20 21 2560 (by decide) (by decide) (by decide) (by decide) (by decide) (kernelRun0_A.sl.HS0_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2454 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e10
  have e12 : ∀ (r : Fin 192) (k : Fin 896), (kernelRun0_A.sl.v2588 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 12, tileSum x0 x1 x2 x3 x4 x5 x6 x7 x8 x9 x10 x11 t r k := by
    have h : (kernelRun0_A.sl.HS0_20 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 22 23 2816 (by decide) (by decide) (by decide) (by decide) (by decide) (kernelRun0_A.sl.v2521 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_20
      rfl
    unfold kernelRun0_A.sl.v2588
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 11 22 23 2816 (by decide) (by decide) (by decide) (by decide) (by decide) (kernelRun0_A.sl.HS0_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2521 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e11
  have e13 : ∀ (r : Fin 192) (k : Fin 896), (kernelRun0_A.sl.v2655 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 13, tileSum x0 x1 x2 x3 x4 x5 x6 x7 x8 x9 x10 x11 t r k := by
    have h : (kernelRun0_A.sl.HS0_21 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 24 25 3072 (by decide) (by decide) (by decide) (by decide) (by decide) (kernelRun0_A.sl.v2588 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_20 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_21
      rfl
    unfold kernelRun0_A.sl.v2655
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 12 24 25 3072 (by decide) (by decide) (by decide) (by decide) (by decide) (kernelRun0_A.sl.HS0_20 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2588 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e12
  have e14 : ∀ (r : Fin 192) (k : Fin 896), (kernelRun0_A.sl.v2722 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 14, tileSum x0 x1 x2 x3 x4 x5 x6 x7 x8 x9 x10 x11 t r k := by
    have h : (kernelRun0_A.sl.HS0_22 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 26 27 3328 (by decide) (by decide) (by decide) (by decide) (by decide) (kernelRun0_A.sl.v2655 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_21 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_22
      rfl
    unfold kernelRun0_A.sl.v2722
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 13 26 27 3328 (by decide) (by decide) (by decide) (by decide) (by decide) (kernelRun0_A.sl.HS0_21 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2655 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e13
  have e15 : ∀ (r : Fin 192) (k : Fin 896), (kernelRun0_A.sl.v2789 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 15, tileSum x0 x1 x2 x3 x4 x5 x6 x7 x8 x9 x10 x11 t r k := by
    have h : (kernelRun0_A.sl.HS0_23 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 28 29 3584 (by decide) (by decide) (by decide) (by decide) (by decide) (kernelRun0_A.sl.v2722 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_22 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_23
      rfl
    unfold kernelRun0_A.sl.v2789
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 14 28 29 3584 (by decide) (by decide) (by decide) (by decide) (by decide) (kernelRun0_A.sl.HS0_22 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2722 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e14
  have e16 : ∀ (r : Fin 192) (k : Fin 896), (kernelRun0_A.sl.v2856 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 16, tileSum x0 x1 x2 x3 x4 x5 x6 x7 x8 x9 x10 x11 t r k := by
    have h : (kernelRun0_A.sl.HS0_24 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 30 31 3840 (by decide) (by decide) (by decide) (by decide) (by decide) (kernelRun0_A.sl.v2789 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_23 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_24
      rfl
    unfold kernelRun0_A.sl.v2856
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 15 30 31 3840 (by decide) (by decide) (by decide) (by decide) (by decide) (kernelRun0_A.sl.HS0_23 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2789 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e15
  have e17 : ∀ (r : Fin 192) (k : Fin 896), (kernelRun0_A.sl.v2923 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 17, tileSum x0 x1 x2 x3 x4 x5 x6 x7 x8 x9 x10 x11 t r k := by
    have h : (kernelRun0_A.sl.HS0_25 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 32 33 4096 (by decide) (by decide) (by decide) (by decide) (by decide) (kernelRun0_A.sl.v2856 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_24 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_25
      rfl
    unfold kernelRun0_A.sl.v2923
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 16 32 33 4096 (by decide) (by decide) (by decide) (by decide) (by decide) (kernelRun0_A.sl.HS0_24 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2856 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e16
  have e18 : ∀ (r : Fin 192) (k : Fin 896), (kernelRun0_A.sl.v2990 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 18, tileSum x0 x1 x2 x3 x4 x5 x6 x7 x8 x9 x10 x11 t r k := by
    have h : (kernelRun0_A.sl.HS0_26 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 34 35 4352 (by decide) (by decide) (by decide) (by decide) (by decide) (kernelRun0_A.sl.v2923 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_25 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_26
      rfl
    unfold kernelRun0_A.sl.v2990
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 17 34 35 4352 (by decide) (by decide) (by decide) (by decide) (by decide) (kernelRun0_A.sl.HS0_25 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2923 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e17
  have e19 : ∀ (r : Fin 192) (k : Fin 896), (kernelRun0_A.sl.v3052 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k) = ∑ t ∈ Finset.range 19, tileSum x0 x1 x2 x3 x4 x5 x6 x7 x8 x9 x10 x11 t r k := by
    have h : (kernelRun0_A.sl.HS0_27 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) = ⟨Rect.unit (s := S192x896) ![0, 0] S192x896.size (by decide), stepVal c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 36 37 4608 (by decide) (by decide) (by decide) (by decide) (by decide) (kernelRun0_A.sl.v2990 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩ :: (kernelRun0_A.sl.HS0_26 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) := by
      unfold kernelRun0_A.sl.HS0_27
      rfl
    unfold kernelRun0_A.sl.v3052
    rw [h]
    exact step_back c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 18 36 37 4608 (by decide) (by decide) (by decide) (by decide) (by decide) (kernelRun0_A.sl.HS0_26 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) rfl rfl rfl (by norm_num) (kernelRun0_A.sl.v2990 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) e18
  exact e19 r k

/-- All tiles: the sum over the 4864 rows of the weights. -/
theorem tiles_sum (r : Fin 192) (k : Fin 896) :
    (∑ t ∈ Finset.range 19, tileSum x0 x1 x2 x3 x4 x5 x6 x7 x8 x9 x10 x11 t r k) = ∑ l : Fin 4864, qc (bAct x0 x1 x2 x3 x4 x5 x6 x7 x8 r) l * bWd x9 x10 x11 l k := by
  rw [Fin.sum_univ_tiles 19 256 (by norm_num), Finset.sum_range]
  refine Finset.sum_congr rfl fun t _ => Finset.sum_congr rfl fun l _ => ?_
  rw [dif_pos]

/-- The residual stream after the output projection, read back. -/
theorem v3050_v (r : Fin 192) (k : Fin 896) :
    kernelRun0_A.sl.v3050 (F := Ideal) c arg0 harg0 arg1 harg1 arg2 harg2 arg3 harg3 arg4 harg4 arg13 arg21 x0 x1 x2 x3 x4 (ix2 r k) = hmid (bX x0) (bT x1) (bWo x2 x3 x4) r k := by
  unfold kernelRun0_A.sl.v3050 kernelRun0_A.sl.H13_1
  rw [View.readCov_fill _ _ _ _ _ (by decide), View.ld_unit_zero (by decide), v1091_eq, whole0 harg0 x0 (by decide)]
  exact pay95_v x0 x1 x2 x3 x4 r k

/-- The residual stream after the down projection. -/
theorem out_v (r : Fin 192) (k : Fin 896) :
    k0_pay2 (F := Ideal) (kernelRun0_A.sl.r_70 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (kernelRun0_A.sl.v3050 (F := Ideal) c arg0 harg0 arg1 harg1 arg2 harg2 arg3 harg3 arg4 harg4 arg13 arg21 x0 x1 x2 x3 x4) (kernelRun0_A.sl.v3052 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11) (ix2 r k)
      = out (bX x0) (bT x1) (bWo x2 x3 x4) (bG x5) (bWgu x6 x7 x8) (bWd x9 x10 x11) r k := by
  rw [pay2_apply, v3050_v, last_back, tiles_sum, r70_v]
  rfl

end Cert.MlpIdeal.Value
end
-- ==== Proof.Outs.lean ====
/- What the kernel leaves in each output's buffer. -/
module
public import proofs.«01_k».proof.Proof.Sum
public import proofs.«01_k».proof.Proof.Blocks
@[expose] public section

set_option maxRecDepth 16384
noncomputable section
namespace Cert.MlpIdeal.Value
open Idealize.ShloMosaic Idealize.ShloMosaic.TcCoe Idealize.SL.Sem
open Cert.MlpIdeal Cert.MlpIdeal.Gen Cert.Spec

variable (c : Dev nD) (arg0 : Memref sig .tc .vmem S192x896 .bf16) (harg0 : arg0.IsWhole) (arg1 : Memref sig .tc .vmem S192x896 .f32) (harg1 : arg1.IsWhole) (arg2 : Memref sig .tc .vmem S112x896 .i32) (harg2 : arg2.IsWhole) (arg3 : Memref sig .tc .vmem S7x112 .i32) (harg3 : arg3.IsWhole) (arg4 : Memref sig .tc .vmem S7x896 .bf16) (harg4 : arg4.IsWhole) (arg5 : Memref sig .tc .vmem S1x896 .f32) (harg5 : arg5.IsWhole) (arg6 : Memref sig .tc .vmem S1216x896 .i32) (harg6 : arg6.IsWhole) (arg7 : Memref sig .tc .vmem S7x1216 .i32) (harg7 : arg7.IsWhole) (arg8 : Memref sig .tc .vmem S7x9728 .bf16) (harg8 : arg8.IsWhole) (arg9 : Memref sig .tc .vmem S112x4864 .i32) (harg9 : arg9.IsWhole) (arg10 : Memref sig .tc .vmem S38x112 .i32) (harg10 : arg10.IsWhole) (arg11 : Memref sig .tc .vmem S38x896 .bf16) (harg11 : arg11.IsWhole) (arg12 : Memref sig .tc .vmem S192x896 .bf16) (harg12 : arg12.IsWhole) (arg13 : Memref sig .tc .vmem S192x896 .f32) (harg13 : arg13.IsWhole) (arg14 : Memref sig .tc .vmem S192x896 .bf16) (harg14 : arg14.IsWhole) (arg15 : Memref sig .tc .vmem S192x896 .i8) (harg15 : arg15.IsWhole) (arg16 : Memref sig .tc .vmem S1x192 .f32) (harg16 : arg16.IsWhole) (arg17 : Memref sig .tc .vmem S192x896 .i8) (harg17 : arg17.IsWhole) (arg18 : Memref sig .tc .vmem S1x192 .f32) (harg18 : arg18.IsWhole) (arg19 : Memref sig .tc .vmem S192x4864 .i8) (harg19 : arg19.IsWhole) (arg20 : Memref sig .tc .vmem S1x192 .f32) (harg20 : arg20.IsWhole) (arg21 : Memref sig .tc .vmem S192x896 .f32) (harg21 : arg21.IsWhole) (arg22 : Memref sig .tc .vmem S38x192x128 .f32) (harg22 : arg22.IsWhole) (arg23 : Memref sig .tc .vmem S1216x8 .i32) (harg23 : arg23.IsWhole) (arg24 : Memref sig .tc .vmem S9728x8 .f32) (harg24 : arg24.IsWhole) (arg25 : Memref sig .tc .vmem S38x192x128 .bf16) (harg25 : arg25.IsWhole)
variable (x0 : Vec Ideal S192x896 .bf16) (x1 : Vec Ideal S192x896 .f32) (x2 : Vec Ideal S112x896 .i32) (x3 : Vec Ideal S7x112 .i32) (x4 : Vec Ideal S7x896 .bf16) (x5 : Vec Ideal S1x896 .f32) (x6 : Vec Ideal S1216x896 .i32) (x7 : Vec Ideal S7x1216 .i32) (x8 : Vec Ideal S7x9728 .bf16) (x9 : Vec Ideal S112x4864 .i32) (x10 : Vec Ideal S38x112 .i32) (x11 : Vec Ideal S38x896 .bf16)

/-- The scales of the gated rows, turned. -/
theorem pay110_apply (a : FVec Ideal S192x1 .f32) (b : IVec S192x1 1) (o : Fin 1) (r : Fin 192) :
    k0_pay110 (F := Ideal) a b (ix2 o r) = k0_pay109 (F := Ideal) a b (ix2 r 0) := by
  pointwise [k0_pay110]

/-- Output 12: the residual stream after the down projection. -/
theorem out12_v (r : Fin 192) (k : Fin 896) : out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 r k) = out (bX x0) (bT x1) (bWo x2 x3 x4) (bG x5) (bWgu x6 x7 x8) (bWd x9 x10 x11) r k := by
  have h : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).1 = [⟨Rect.unit (s := S192x896) ![0, 0] S192x896.size (by decide), k0_pay2 (F := Ideal) (kernelRun0_A.sl.r_70 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (kernelRun0_A.sl.v3050 (F := Ideal) c arg0 harg0 arg1 harg1 arg2 harg2 arg3 harg3 arg4 harg4 arg13 arg21 x0 x1 x2 x3 x4) (kernelRun0_A.sl.v3052 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11)⟩] := rfl
  unfold out0_A_12
  rw [h, View.read_writes_junk_eq_canon, View.canon_unit_zero (by decide)]
  exact out_v c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 r k

/-- Output 13: the residual stream after the output projection. -/
theorem out13_v (r : Fin 192) (k : Fin 896) : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 r k) = hmid (bX x0) (bT x1) (bWo x2 x3 x4) r k := by
  have h : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.1 = [⟨Rect.unit (s := S192x896) ![0, 0] S192x896.size (by decide), k0_pay95 (F := Ideal) (View.readAt (Elt Ideal) arg0.view (Rect.unit (s := S192x896) ![0, 0] S192x896.size (by decide)).toLoadRect (harg0.unread x0)) (kernelRun0_A.sl.v1091 (F := Ideal) c arg1 harg1 arg2 harg2 arg3 harg3 arg4 harg4 arg21 x1 x2 x3 x4)⟩] := rfl
  unfold out0_A_13
  rw [h, View.read_writes_junk_eq_canon, View.canon_unit_zero (by decide)]
  rw [whole0 harg0 x0 (by decide), v1091_eq]
  exact pay95_v x0 x1 x2 x3 x4 r k

/-- Output 14: the attention rows. -/
theorem out14_v (r : Fin 192) (k : Fin 896) : out0_A_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 r k) = bT x1 r k := by
  have h : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.1 = [⟨Rect.unit (s := S192x896) ![0, 0] S192x896.size (by decide), k0_pay15 (F := Ideal) (View.readAt (Elt Ideal) arg1.view (Rect.unit (s := S192x896) ![0, 0] S192x896.size (by decide)).toLoadRect (harg1.unread x1))⟩] := rfl
  unfold out0_A_14
  rw [h, View.read_writes_junk_eq_canon, View.canon_unit_zero (by decide)]
  rw [whole0 harg1 x1 (by decide)]
  rfl

/-- Output 15: the attention rows' codes. -/
theorem out15_v (r : Fin 192) (k : Fin 896) : out0_A_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 r k) = FloatOps.fptosi (F := Ideal) (φ := .f32) 8 (qc (bT x1 r) k) := by
  have h : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.1 = [⟨Rect.unit (s := S192x896) ![0, 0] S192x896.size (by decide), k0_pay18 (F := Ideal) (View.readAt (Elt Ideal) arg1.view (Rect.unit (s := S192x896) ![0, 0] S192x896.size (by decide)).toLoadRect (harg1.unread x1))⟩] := rfl
  unfold out0_A_15
  rw [h, View.read_writes_junk_eq_canon, View.canon_unit_zero (by decide)]
  rw [whole0 harg1 x1 (by decide)]
  exact congrArg (FloatOps.fptosi (F := Ideal) (φ := .f32) 8) (pay17_apply x1 r k)

/-- Output 16: the attention rows' scales. -/
theorem out16_v (o : Fin 1) (r : Fin 192) : out0_A_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 o r) = qs (bT x1 r) := by
  have h : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.1 = [⟨Rect.unit (s := S1x192) ![0, 0] S1x192.size (by decide), k0_pay19 (F := Ideal) (View.readAt (Elt Ideal) arg1.view (Rect.unit (s := S192x896) ![0, 0] S192x896.size (by decide)).toLoadRect (harg1.unread x1))⟩] := rfl
  unfold out0_A_16
  rw [h, View.read_writes_junk_eq_canon, View.canon_unit_zero (by decide)]
  rw [whole0 harg1 x1 (by decide)]
  exact pay19_apply x1 r o

/-- Output 17: the normalised rows' codes. -/
theorem out17_v (r : Fin 192) (k : Fin 896) : out0_A_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 r k) = FloatOps.fptosi (F := Ideal) (φ := .f32) 8 (qc (zrow (bX x0) (bT x1) (bWo x2 x3 x4) (bG x5) r) k) := by
  have h : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.1 = [⟨Rect.unit (s := S192x896) ![0, 0] S192x896.size (by decide), k0_pay100 (F := Ideal) (kernelRun0_A.sl.r_67 (F := Ideal) c arg0 harg0 arg1 harg1 arg2 harg2 arg3 harg3 arg4 harg4 arg5 harg5 arg21 x0 x1 x2 x3 x4 x5) (kernelRun0_A.sl.cst_225 (F := Ideal))⟩] := rfl
  unfold out0_A_17
  rw [h, View.read_writes_junk_eq_canon, View.canon_unit_zero (by decide)]
  exact congrArg (FloatOps.fptosi (F := Ideal) (φ := .f32) 8) (r67_v c arg0 harg0 arg1 harg1 arg2 harg2 arg3 harg3 arg4 harg4 arg5 harg5 arg21 x0 x1 x2 x3 x4 x5 r k)

/-- Output 18: the normalised rows' scales. -/
theorem out18_v (o : Fin 1) (r : Fin 192) : out0_A_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 o r) = qs (zrow (bX x0) (bT x1) (bWo x2 x3 x4) (bG x5) r) := by
  have h : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.1 = [⟨Rect.unit (s := S1x192) ![0, 0] S1x192.size (by decide), k0_pay101 (F := Ideal) (kernelRun0_A.sl.r_66 (F := Ideal) c arg0 harg0 arg1 harg1 arg2 harg2 arg3 harg3 arg4 harg4 arg5 harg5 arg21 x0 x1 x2 x3 x4 x5)⟩] := rfl
  unfold out0_A_18
  rw [h, View.read_writes_junk_eq_canon, View.canon_unit_zero (by decide)]
  exact (pay101_apply _ r o).trans (r66_v c arg0 harg0 arg1 harg1 arg2 harg2 arg3 harg3 arg4 harg4 arg5 harg5 arg21 x0 x1 x2 x3 x4 x5 r 0)

/-- Output 19: the gated rows' codes. -/
theorem out19_v (r : Fin 192) (k : Fin 4864) : out0_A_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 r k) = FloatOps.fptosi (F := Ideal) (φ := .f32) 8 (qc (bAct x0 x1 x2 x3 x4 x5 x6 x7 x8 r) k) := by
  unfold out0_A_19
  rw [View.read_writes_junk_eq_canon]
  exact View.canon_apply_of_pieces _ _ (chunk_pieces c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).mem _ (cover0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 r k))

/-- Output 20: the gated rows' scales. -/
theorem out20_v (o : Fin 1) (r : Fin 192) : out0_A_20 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 (ix2 o r) = qs (bAct x0 x1 x2 x3 x4 x5 x6 x7 x8 r) := by
  have h : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).2.2.2.2.2.2.2.2.1 = [⟨Rect.unit (s := S1x192) ![0, 0] S1x192.size (by decide), k0_pay110 (F := Ideal) (kernelRun0_A.sl.r_68 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8) (kernelRun0_A.sl.r_69 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8)⟩] := rfl
  unfold out0_A_20
  rw [h, View.read_writes_junk_eq_canon, View.canon_unit_zero (by decide)]
  rw [pay110_apply]
  exact r70_v c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 r 0

end Cert.MlpIdeal.Value
end
-- ==== Proof.Link.lean ====
/- The kernel's blocks, read from its arguments. -/
module
public import proofs.«01_k».proof.Proof.Outs
public import Idealize.ShloMosaic.Lib.Pipeline.ValueKit
@[expose] public section

set_option maxRecDepth 16384
noncomputable section
namespace Cert.MlpIdeal.Value
open Idealize.ShloMosaic Idealize.ShloMosaic.TcCoe Idealize.SL.Sem
open Cert.MlpIdeal Cert.MlpIdeal.Gen Cert.Spec

variable (m : (ℓ : Loc nD τ sig) → Buf (Elt Ideal) ℓ) (c : Dev nD)

/-- A weight held turned by the kernel is the shared one. -/
theorem kw_awq {K G W J : ℕ} (w : (⟨2, ![W, K]⟩ : Shape).Idx → BitVec 32) (q : (⟨2, ![K, W]⟩ : Shape).Idx → BitVec 32) (z z' : (⟨2, ![G, W]⟩ : Shape).Idx → BitVec 32)
    (s s' : (⟨2, ![G, J]⟩ : Shape).Idx → EReal) (hJ : J = 8 * W) (hK : K = 128 * G) (h : ∀ i k, w (ix2 i k) = q (ix2 k i))
    (hz : ∀ i k, z (ix2 i k) = z' (ix2 i k)) (hs : ∀ i k, s (ix2 i k) = s' (ix2 i k)) : kw w z s hJ hK = awq q z' s' hJ hK := by
  rw [kw_eq w q z s hJ hK h]
  funext k j
  unfold awq
  rw [hz, hs]

/-- The residual stream's block: the argument, its unit axis dropped. -/
theorem blk0 (i : Fin 192) (j : Fin 896) : iblk m c 0 t0_0 (ix2 i j) = m ((c : Thread nD τ).loc main_arg0) (ix3 i 0 j) := by
  have hi : win0_0.index t0_0 0 = 0 := by decide +kernel
  have hj : win0_0.index t0_0 1 = 0 := by decide +kernel
  blk_ext! [iblk, V, hi, hj]

/-- The attention rows' block: the argument. -/
theorem blk1 (i : Fin 192) (j : Fin 896) : iblk m c 1 t0_0 (ix2 i j) = m ((c : Thread nD τ).loc main_arg1) (ix2 i j) := by
  have hi : win0_1.index t0_0 0 = 0 := by decide +kernel
  have hj : win0_1.index t0_0 1 = 0 := by decide +kernel
  blk_ext! [iblk, V, hi, hj]

/-- The output projection's words: the argument, turned. -/
theorem blk2 (i : Fin 112) (j : Fin 896) : iblk m c 2 t0_0 (ix2 i j) = m ((c : Thread nD τ).loc main_arg2) (ix2 j i) := by
  have hi : win0_2.index t0_0 0 = 0 := by decide +kernel
  have hj : win0_2.index t0_0 1 = 0 := by decide +kernel
  blk_ext! [iblk, V, hi, hj]

/-- Its zero points: the argument. -/
theorem blk3 (i : Fin 7) (j : Fin 112) : iblk m c 3 t0_0 (ix2 i j) = m ((c : Thread nD τ).loc main_arg3) (ix2 i j) := by
  have hi : win0_3.index t0_0 0 = 0 := by decide +kernel
  have hj : win0_3.index t0_0 1 = 0 := by decide +kernel
  blk_ext! [iblk, V, hi, hj]

/-- Its scales: the argument. -/
theorem blk4 (i : Fin 7) (j : Fin 896) : iblk m c 4 t0_0 (ix2 i j) = m ((c : Thread nD τ).loc main_arg4) (ix2 i j) := by
  have hi : win0_4.index t0_0 0 = 0 := by decide +kernel
  have hj : win0_4.index t0_0 1 = 0 := by decide +kernel
  blk_ext! [iblk, V, hi, hj]

/-- The gain: the argument, with a unit axis. -/
theorem blk5 (i : Fin 1) (j : Fin 896) : iblk m c 5 t0_0 (ix2 i j) = m ((c : Thread nD τ).loc main_arg5) (ix1 j) := by
  have hi : win0_5.index t0_0 0 = 0 := by decide +kernel
  have hj : win0_5.index t0_0 1 = 0 := by decide +kernel
  blk_ext! [iblk, V, hi, hj]

/-- The gate and up words: the argument, turned. -/
theorem blk6 (i : Fin 1216) (j : Fin 896) : iblk m c 6 t0_0 (ix2 i j) = m ((c : Thread nD τ).loc main_arg6) (ix2 j i) := by
  have hi : win0_6.index t0_0 0 = 0 := by decide +kernel
  have hj : win0_6.index t0_0 1 = 0 := by decide +kernel
  blk_ext! [iblk, V, hi, hj]

/-- Their zero points: the argument. -/
theorem blk7 (i : Fin 7) (j : Fin 1216) : iblk m c 7 t0_0 (ix2 i j) = m ((c : Thread nD τ).loc main_arg7) (ix2 i j) := by
  have hi : win0_7.index t0_0 0 = 0 := by decide +kernel
  have hj : win0_7.index t0_0 1 = 0 := by decide +kernel
  blk_ext! [iblk, V, hi, hj]

/-- Their scales: the argument. -/
theorem blk8 (i : Fin 7) (j : Fin 9728) : iblk m c 8 t0_0 (ix2 i j) = m ((c : Thread nD τ).loc main_arg8) (ix2 i j) := by
  have hi : win0_8.index t0_0 0 = 0 := by decide +kernel
  have hj : win0_8.index t0_0 1 = 0 := by decide +kernel
  blk_ext! [iblk, V, hi, hj]

/-- The down projection's words: the argument, turned. -/
theorem blk9 (i : Fin 112) (j : Fin 4864) : iblk m c 9 t0_0 (ix2 i j) = m ((c : Thread nD τ).loc main_arg9) (ix2 j i) := by
  have hi : win0_9.index t0_0 0 = 0 := by decide +kernel
  have hj : win0_9.index t0_0 1 = 0 := by decide +kernel
  blk_ext! [iblk, V, hi, hj]

/-- Its zero points: the argument. -/
theorem blk10 (i : Fin 38) (j : Fin 112) : iblk m c 10 t0_0 (ix2 i j) = m ((c : Thread nD τ).loc main_arg10) (ix2 i j) := by
  have hi : win0_10.index t0_0 0 = 0 := by decide +kernel
  have hj : win0_10.index t0_0 1 = 0 := by decide +kernel
  blk_ext! [iblk, V, hi, hj]

/-- Its scales: the argument. -/
theorem blk11 (i : Fin 38) (j : Fin 896) : iblk m c 11 t0_0 (ix2 i j) = m ((c : Thread nD τ).loc main_arg11) (ix2 i j) := by
  have hi : win0_11.index t0_0 0 = 0 := by decide +kernel
  have hj : win0_11.index t0_0 1 = 0 := by decide +kernel
  blk_ext! [iblk, V, hi, hj]

/-- The residual stream. -/
def pX (r : Fin 192) (k : Fin 896) : EReal := at3 (n := 192) (m := 1) (l := 896) (α := EReal) (m ((c : Thread nD τ).loc main_arg0)) r 0 k
/-- The attention rows. -/
def pT (r : Fin 192) : Fin 896 → EReal := at2 (n := 192) (m := 896) (α := EReal) (m ((c : Thread nD τ).loc main_arg1)) r
/-- The output projection's weights. -/
def pWo : Fin 896 → Fin 896 → EReal := awq (K := 896) (G := 7) (W := 112) (J := 896) (m ((c : Thread nD τ).loc main_arg2)) (m ((c : Thread nD τ).loc main_arg3)) (m ((c : Thread nD τ).loc main_arg4)) rfl rfl
/-- The gain of the normalisation. -/
def pG : Fin 896 → EReal := at1 (n := 896) (α := EReal) (m ((c : Thread nD τ).loc main_arg5))
/-- The gate and up weights. -/
def pWgu : Fin 896 → Fin 9728 → EReal := awq (K := 896) (G := 7) (W := 1216) (J := 9728) (m ((c : Thread nD τ).loc main_arg6)) (m ((c : Thread nD τ).loc main_arg7)) (m ((c : Thread nD τ).loc main_arg8)) rfl rfl
/-- The down projection's weights. -/
def pWd : Fin 4864 → Fin 896 → EReal := awq (K := 4864) (G := 38) (W := 112) (J := 896) (m ((c : Thread nD τ).loc main_arg9)) (m ((c : Thread nD τ).loc main_arg10)) (m ((c : Thread nD τ).loc main_arg11)) rfl rfl

/-- The kernel's residual stream. -/
theorem bX_eq : bX (iblk m c 0 t0_0) = pX m c := funext fun r => funext fun k => blk0 m c r k
/-- The kernel's attention rows. -/
theorem bT_eq : bT (iblk m c 1 t0_0) = pT m c := funext fun r => funext fun k => blk1 m c r k
/-- The kernel's gain. -/
theorem bG_eq : bG (iblk m c 5 t0_0) = pG m c := funext fun k => blk5 m c 0 k
/-- The kernel's output projection weights. -/
theorem bWo_eq : bWo (iblk m c 2 t0_0) (iblk m c 3 t0_0) (iblk m c 4 t0_0) = pWo m c := kw_awq _ _ _ _ _ _ rfl rfl (blk2 m c) (blk3 m c) (blk4 m c)
/-- The kernel's gate and up weights. -/
theorem bWgu_eq : bWgu (iblk m c 6 t0_0) (iblk m c 7 t0_0) (iblk m c 8 t0_0) = pWgu m c := kw_awq _ _ _ _ _ _ rfl rfl (blk6 m c) (blk7 m c) (blk8 m c)
/-- The kernel's down projection weights. -/
theorem bWd_eq : bWd (iblk m c 9 t0_0) (iblk m c 10 t0_0) (iblk m c 11 t0_0) = pWd m c := kw_awq _ _ _ _ _ _ rfl rfl (blk9 m c) (blk10 m c) (blk11 m c)
/-- The kernel's gated rows. -/
theorem bAct_eq : bAct (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) = act (pX m c) (pT m c) (pWo m c) (pG m c) (pWgu m c) := by
  funext r
  unfold bAct
  rw [bX_eq, bT_eq, bWo_eq, bG_eq, bWgu_eq]

end Cert.MlpIdeal.Value
end
-- ==== Proof.Final.lean ====
/- The nine result arrays of the MLP kernel after the run, each as one function of the arguments in the shared terms of Spec. The grid has one
   point and every block is its whole array, so an array after the run is what the body left in its window. -/
module
public import proofs.«01_k».proof.Proof.Outs
public import proofs.«01_k».proof.Proof.Link
public import Idealize.ShloMosaic.Lib.Pipeline.ValueKit

@[expose] public section

set_option maxRecDepth 16384

noncomputable section

namespace Cert.MlpIdeal.Value

open Idealize.ShloMosaic Idealize.ShloMosaic.TcCoe Idealize.SL.Sem
open Cert.MlpIdeal Cert.MlpIdeal.Gen Cert.Spec

variable (m : (ℓ : Loc nD τ sig) → Buf (Elt Ideal) ℓ) (c : Dev nD)

/-- The result of window 12: the call's output. -/
def K12 (y : S192x896.Idx) : EReal := (fun (r : Fin 192) (k : Fin 896) => out (pX m c) (pT m c) (pWo m c) (pG m c) (pWgu m c) (pWd m c) r k) (y 0) (y 1)

/-- What the body leaves in window 12: the call's output. -/
theorem outs12 (r : Fin 192) (k : Fin 896) : (outsAt0 m c t0_0).1 (ix2 r k) = out (pX m c) (pT m c) (pWo m c) (pG m c) (pWgu m c) (pWd m c) r k := by
  simp only [outsAt0]
  rw [out12_v, bX_eq, bT_eq, bWo_eq, bG_eq, bWgu_eq, bWd_eq]

/-- The array of window 12 after the run: the call's output. -/
theorem final12 : (dats m 0 c).arrAt 12 (cfgs 0).N = K12 m c := by
  have h := outs12 m c
  refine (dats m 0 c).arrAt_eq_of_after_last 12 t0_0 (by decide +kernel) _ fun j => ?_
  rw [after0_12]
  generalize outsAt0 m c t0_0 = O at h ⊢
  have e : (fun a => ⟨(j a).val, (j a).isLt⟩ : S192x896.Idx) = ix2 ⟨(j 0).val, (j 0).isLt⟩ ⟨(j 1).val, (j 1).isLt⟩ := by
    funext a; fin_cases a <;> rfl
  exact (congrArg O.1 e).trans (h _ _)

/-- The result of window 13: the residual stream with the projected attention rows. -/
def K13 (y : S192x896.Idx) : EReal := (fun (r : Fin 192) (k : Fin 896) => hmid (pX m c) (pT m c) (pWo m c) r k) (y 0) (y 1)

/-- What the body leaves in window 13: the residual stream with the projected attention rows. -/
theorem outs13 (r : Fin 192) (k : Fin 896) : (outsAt0 m c t0_0).2.1 (ix2 r k) = hmid (pX m c) (pT m c) (pWo m c) r k := by
  simp only [outsAt0]
  rw [out13_v, bX_eq, bT_eq, bWo_eq]

/-- The array of window 13 after the run: the residual stream with the projected attention rows. -/
theorem final13 : (dats m 0 c).arrAt 13 (cfgs 0).N = K13 m c := by
  have h := outs13 m c
  refine (dats m 0 c).arrAt_eq_of_after_last 13 t0_0 (by decide +kernel) _ fun j => ?_
  rw [after0_13]
  generalize outsAt0 m c t0_0 = O at h ⊢
  have e : (fun a => ⟨(j a).val, (j a).isLt⟩ : S192x896.Idx) = ix2 ⟨(j 0).val, (j 0).isLt⟩ ⟨(j 1).val, (j 1).isLt⟩ := by
    funext a; fin_cases a <;> rfl
  exact (congrArg O.2.1 e).trans (h _ _)

/-- The result of window 14: the attention rows. -/
def K14 (y : S192x896.Idx) : EReal := (fun (r : Fin 192) (k : Fin 896) => pT m c r k) (y 0) (y 1)

/-- What the body leaves in window 14: the attention rows. -/
theorem outs14 (r : Fin 192) (k : Fin 896) : (outsAt0 m c t0_0).2.2.1 (ix2 r k) = pT m c r k := by
  simp only [outsAt0]
  rw [out14_v, bT_eq]

/-- The array of window 14 after the run: the attention rows. -/
theorem final14 : (dats m 0 c).arrAt 14 (cfgs 0).N = K14 m c := by
  have h := outs14 m c
  refine (dats m 0 c).arrAt_eq_of_after_last 14 t0_0 (by decide +kernel) _ fun j => ?_
  rw [after0_14]
  generalize outsAt0 m c t0_0 = O at h ⊢
  have e : (fun a => ⟨(j a).val, (j a).isLt⟩ : S192x896.Idx) = ix2 ⟨(j 0).val, (j 0).isLt⟩ ⟨(j 1).val, (j 1).isLt⟩ := by
    funext a; fin_cases a <;> rfl
  exact (congrArg O.2.2.1 e).trans (h _ _)

/-- The result of window 15: the attention rows' codes. -/
def K15 (y : S192x896.Idx) : BitVec 8 := (fun (r : Fin 192) (k : Fin 896) => FloatOps.fptosi (F := Ideal) (φ := .f32) 8 (qc (pT m c r) k)) (y 0) (y 1)

/-- What the body leaves in window 15: the attention rows' codes. -/
theorem outs15 (r : Fin 192) (k : Fin 896) : (outsAt0 m c t0_0).2.2.2.1 (ix2 r k) = FloatOps.fptosi (F := Ideal) (φ := .f32) 8 (qc (pT m c r) k) := by
  simp only [outsAt0]
  rw [out15_v, bT_eq]

/-- The array of window 15 after the run: the attention rows' codes. -/
theorem final15 : (dats m 0 c).arrAt 15 (cfgs 0).N = K15 m c := by
  have h := outs15 m c
  refine (dats m 0 c).arrAt_eq_of_after_last 15 t0_0 (by decide +kernel) _ fun j => ?_
  rw [after0_15]
  generalize outsAt0 m c t0_0 = O at h ⊢
  have e : (fun a => ⟨(j a).val, (j a).isLt⟩ : S192x896.Idx) = ix2 ⟨(j 0).val, (j 0).isLt⟩ ⟨(j 1).val, (j 1).isLt⟩ := by
    funext a; fin_cases a <;> rfl
  exact (congrArg O.2.2.2.1 e).trans (h _ _)

/-- The result of window 16: the attention rows' scales. -/
def K16 (y : S1x192.Idx) : EReal := (fun (r : Fin 1) (k : Fin 192) => qs (pT m c k)) (y 0) (y 1)

/-- What the body leaves in window 16: the attention rows' scales. -/
theorem outs16 (r : Fin 1) (k : Fin 192) : (outsAt0 m c t0_0).2.2.2.2.1 (ix2 r k) = qs (pT m c k) := by
  simp only [outsAt0]
  rw [out16_v, bT_eq]

/-- The array of window 16 after the run: the attention rows' scales. -/
theorem final16 : (dats m 0 c).arrAt 16 (cfgs 0).N = K16 m c := by
  have h := outs16 m c
  refine (dats m 0 c).arrAt_eq_of_after_last 16 t0_0 (by decide +kernel) _ fun j => ?_
  rw [after0_16]
  generalize outsAt0 m c t0_0 = O at h ⊢
  have e : (fun a => ⟨(j a).val, (j a).isLt⟩ : S1x192.Idx) = ix2 ⟨(j 0).val, (j 0).isLt⟩ ⟨(j 1).val, (j 1).isLt⟩ := by
    funext a; fin_cases a <;> rfl
  exact (congrArg O.2.2.2.2.1 e).trans (h _ _)

/-- The result of window 17: the normalised rows' codes. -/
def K17 (y : S192x896.Idx) : BitVec 8 := (fun (r : Fin 192) (k : Fin 896) => FloatOps.fptosi (F := Ideal) (φ := .f32) 8 (qc (zrow (pX m c) (pT m c) (pWo m c) (pG m c) r) k)) (y 0) (y 1)

/-- What the body leaves in window 17: the normalised rows' codes. -/
theorem outs17 (r : Fin 192) (k : Fin 896) : (outsAt0 m c t0_0).2.2.2.2.2.1 (ix2 r k) = FloatOps.fptosi (F := Ideal) (φ := .f32) 8 (qc (zrow (pX m c) (pT m c) (pWo m c) (pG m c) r) k) := by
  simp only [outsAt0]
  rw [out17_v, bX_eq, bT_eq, bWo_eq, bG_eq]

/-- The array of window 17 after the run: the normalised rows' codes. -/
theorem final17 : (dats m 0 c).arrAt 17 (cfgs 0).N = K17 m c := by
  have h := outs17 m c
  refine (dats m 0 c).arrAt_eq_of_after_last 17 t0_0 (by decide +kernel) _ fun j => ?_
  rw [after0_17]
  generalize outsAt0 m c t0_0 = O at h ⊢
  have e : (fun a => ⟨(j a).val, (j a).isLt⟩ : S192x896.Idx) = ix2 ⟨(j 0).val, (j 0).isLt⟩ ⟨(j 1).val, (j 1).isLt⟩ := by
    funext a; fin_cases a <;> rfl
  exact (congrArg O.2.2.2.2.2.1 e).trans (h _ _)

/-- The result of window 18: the normalised rows' scales. -/
def K18 (y : S1x192.Idx) : EReal := (fun (r : Fin 1) (k : Fin 192) => qs (zrow (pX m c) (pT m c) (pWo m c) (pG m c) k)) (y 0) (y 1)

/-- What the body leaves in window 18: the normalised rows' scales. -/
theorem outs18 (r : Fin 1) (k : Fin 192) : (outsAt0 m c t0_0).2.2.2.2.2.2.1 (ix2 r k) = qs (zrow (pX m c) (pT m c) (pWo m c) (pG m c) k) := by
  simp only [outsAt0]
  rw [out18_v, bX_eq, bT_eq, bWo_eq, bG_eq]

/-- The array of window 18 after the run: the normalised rows' scales. -/
theorem final18 : (dats m 0 c).arrAt 18 (cfgs 0).N = K18 m c := by
  have h := outs18 m c
  refine (dats m 0 c).arrAt_eq_of_after_last 18 t0_0 (by decide +kernel) _ fun j => ?_
  rw [after0_18]
  generalize outsAt0 m c t0_0 = O at h ⊢
  have e : (fun a => ⟨(j a).val, (j a).isLt⟩ : S1x192.Idx) = ix2 ⟨(j 0).val, (j 0).isLt⟩ ⟨(j 1).val, (j 1).isLt⟩ := by
    funext a; fin_cases a <;> rfl
  exact (congrArg O.2.2.2.2.2.2.1 e).trans (h _ _)

/-- The result of window 19: the gated rows' codes. -/
def K19 (y : S192x4864.Idx) : BitVec 8 := (fun (r : Fin 192) (k : Fin 4864) => FloatOps.fptosi (F := Ideal) (φ := .f32) 8 (qc (act (pX m c) (pT m c) (pWo m c) (pG m c) (pWgu m c) r) k)) (y 0) (y 1)

/-- What the body leaves in window 19: the gated rows' codes. -/
theorem outs19 (r : Fin 192) (k : Fin 4864) : (outsAt0 m c t0_0).2.2.2.2.2.2.2.1 (ix2 r k) = FloatOps.fptosi (F := Ideal) (φ := .f32) 8 (qc (act (pX m c) (pT m c) (pWo m c) (pG m c) (pWgu m c) r) k) := by
  simp only [outsAt0]
  rw [out19_v, bAct_eq]

/-- The array of window 19 after the run: the gated rows' codes. -/
theorem final19 : (dats m 0 c).arrAt 19 (cfgs 0).N = K19 m c := by
  have h := outs19 m c
  refine (dats m 0 c).arrAt_eq_of_after_last 19 t0_0 (by decide +kernel) _ fun j => ?_
  rw [after0_19]
  generalize outsAt0 m c t0_0 = O at h ⊢
  have e : (fun a => ⟨(j a).val, (j a).isLt⟩ : S192x4864.Idx) = ix2 ⟨(j 0).val, (j 0).isLt⟩ ⟨(j 1).val, (j 1).isLt⟩ := by
    funext a; fin_cases a <;> rfl
  exact (congrArg O.2.2.2.2.2.2.2.1 e).trans (h _ _)

/-- The result of window 20: the gated rows' scales. -/
def K20 (y : S1x192.Idx) : EReal := (fun (r : Fin 1) (k : Fin 192) => qs (act (pX m c) (pT m c) (pWo m c) (pG m c) (pWgu m c) k)) (y 0) (y 1)

/-- What the body leaves in window 20: the gated rows' scales. -/
theorem outs20 (r : Fin 1) (k : Fin 192) : (outsAt0 m c t0_0).2.2.2.2.2.2.2.2 (ix2 r k) = qs (act (pX m c) (pT m c) (pWo m c) (pG m c) (pWgu m c) k) := by
  simp only [outsAt0]
  rw [out20_v, bAct_eq]

/-- The array of window 20 after the run: the gated rows' scales. -/
theorem final20 : (dats m 0 c).arrAt 20 (cfgs 0).N = K20 m c := by
  have h := outs20 m c
  refine (dats m 0 c).arrAt_eq_of_after_last 20 t0_0 (by decide +kernel) _ fun j => ?_
  rw [after0_20]
  generalize outsAt0 m c t0_0 = O at h ⊢
  have e : (fun a => ⟨(j a).val, (j a).isLt⟩ : S1x192.Idx) = ix2 ⟨(j 0).val, (j 0).isLt⟩ ⟨(j 1).val, (j 1).isLt⟩ := by
    funext a; fin_cases a <;> rfl
  exact (congrArg O.2.2.2.2.2.2.2.2 e).trans (h _ _)

end Cert.MlpIdeal.Value
end
-- ==== Proof.Ref.lean ====
/- What the reference's host operations leave in each buffer, stage by stage, as functions of rows and columns. -/
module

public import proofs.«01_k».proof.Proof.Spec
public import proofs.«01_k».proof.Proof.Gen.MlpRefIdeal.Frame

@[expose] public section

set_option maxRecDepth 16384

noncomputable section

namespace Cert.MlpRefIdeal.Value

open Idealize.ShloMosaic Idealize.ShloMosaic.TcCoe Idealize.SL.Sem
open Cert.MlpIdeal.Value (refNibble shiftOf)
open Cert.MlpRefIdeal Cert.MlpRefIdeal.Gen Cert.Spec
open StableHlo

/-- The operations that quantise the attention output. -/
def opsA : List (HloOp τ sig (Elt Ideal)) := hostOps0 ++ (hostOps0_1 ++ (hostOps0_2 ++ (hostOps0_3 ++ (hostOps0_4 ++ hostOps0_5))))
/-- The operations of the output projection and its residual. -/
def opsB : List (HloOp τ sig (Elt Ideal)) := hostOps0_6.take 44
/-- The operations that normalise and quantise. -/
def opsC : List (HloOp τ sig (Elt Ideal)) := hostOps0_6.drop 44 ++ (hostOps0_7 ++ (hostOps0_8 ++ (hostOps0_9 ++ (hostOps0_10 ++ hostOps0_11))))
/-- The operations of the gate and up projections. -/
def opsD : List (HloOp τ sig (Elt Ideal)) := hostOps0_12.take 43
/-- The operations that gate and quantise. -/
def opsE : List (HloOp τ sig (Elt Ideal)) := hostOps0_12.drop 43 ++ (hostOps0_13 ++ (hostOps0_14 ++ (hostOps0_15 ++ (hostOps0_16 ++ (hostOps0_17 ++ (hostOps0_18 ++ hostOps0_19))))))
/-- The operations of the down projection, its residual, and the results' casts and shapes. -/
def opsF : List (HloOp τ sig (Elt Ideal)) := hostOps0_20

variable (σ : Valuation τ sig (Elt Ideal))

/-- The attention rows' scales. -/
theorem v8_eq (r : Fin 192) :
    at1 (n := 192) (α := EReal) (after opsA σ (Proc.devRef .tc main_v8)) r = qs (at2 (n := 192) (m := 896) (σ (Proc.devRef .tc main_arg1)) r) := by
  simp only [opsA, after_append]
  entry_read
  simp -implicitDefEqProofs only [TRef.toBuf, TRef.ofBuf, cast_cast, cast_eq]
  unfold at1 qs amax at2
  pointwise
  simp only [ofBits_127, ofBits_neg127, ofBits_896, ofBits_neginf]
  rfl

/-- The attention rows' codes. -/
theorem v13_eq (r : Fin 192) (k : Fin 896) :
    at2 (n := 192) (m := 896) (α := EReal) (after opsA σ (Proc.devRef .tc main_v13)) r k = qc (at2 (n := 192) (m := 896) (σ (Proc.devRef .tc main_arg1)) r) k := by
  simp only [opsA, after_append]
  entry_read
  simp -implicitDefEqProofs only [TRef.toBuf, TRef.ofBuf, cast_cast, cast_eq]
  unfold qc qs amax at2
  pointwise
  simp only [ofBits_127, ofBits_neg127, ofBits_896, ofBits_neginf]
  rfl

/-- The residual stream after the output projection. -/
theorem v51_eq (r : Fin 192) (k : Fin 896) :
    at2 (n := 192) (m := 896) (after opsB σ (Proc.devRef .tc main_v51)) r k =
      at2 (n := 192) (m := 896) (α := EReal) (σ (Proc.devRef .tc main_v1)) r k +
        proj (at2 (n := 192) (m := 896) (σ (Proc.devRef .tc main_v13)) r) (at1 (n := 192) (σ (Proc.devRef .tc main_v8)) r)
          (awq (K := 896) (G := 7) (W := 112) (J := 896) (σ (Proc.devRef .tc main_arg2)) (σ (Proc.devRef .tc main_arg3)) (σ (Proc.devRef .tc main_arg4)) rfl rfl) k := by
  simp only [opsB, hostOps0_6, List.take_succ_cons, List.take_zero, after_append]
  entry_read
  unfold at2 at1 proj awq wt nib refNibble shiftOf
  pointwise
  simp only [Nat.div_add_mod', Fin.eta]
  rfl

/-- The normalised rows' scales. -/
theorem v71_eq (r : Fin 192) :
    at1 (n := 192) (α := EReal) (after opsC σ (Proc.devRef .tc main_v71)) r =
      qs (rms (at2 (n := 192) (m := 896) (σ (Proc.devRef .tc main_v51)) r) (at1 (n := 896) (σ (Proc.devRef .tc main_arg5)))) := by
  simp only [opsC, hostOps0_6, List.drop_succ_cons, List.drop_zero, after_append]
  entry_read
  simp -implicitDefEqProofs only [TRef.toBuf, TRef.ofBuf, cast_cast, cast_eq]
  unfold at1 qs amax rms at2
  pointwise
  simp only [ofBits_127, ofBits_neg127, ofBits_896, ofBits_neginf]
  rfl

/-- The normalised rows' codes. -/
theorem v76_eq (r : Fin 192) (k : Fin 896) :
    at2 (n := 192) (m := 896) (α := EReal) (after opsC σ (Proc.devRef .tc main_v76)) r k =
      qc (rms (at2 (n := 192) (m := 896) (σ (Proc.devRef .tc main_v51)) r) (at1 (n := 896) (σ (Proc.devRef .tc main_arg5)))) k := by
  simp only [opsC, hostOps0_6, List.drop_succ_cons, List.drop_zero, after_append]
  entry_read
  simp -implicitDefEqProofs only [TRef.toBuf, TRef.ofBuf, cast_cast, cast_eq]
  unfold qc qs amax rms at2 at1
  pointwise
  simp only [ofBits_127, ofBits_neg127, ofBits_896, ofBits_neginf]
  rfl

/-- The gate and up columns. -/
theorem v113_eq (r : Fin 192) (k : Fin 9728) :
    at2 (n := 192) (m := 9728) (α := EReal) (after opsD σ (Proc.devRef .tc main_v113)) r k =
        proj (at2 (n := 192) (m := 896) (σ (Proc.devRef .tc main_v76)) r) (at1 (n := 192) (σ (Proc.devRef .tc main_v71)) r)
          (awq (K := 896) (G := 7) (W := 1216) (J := 9728) (σ (Proc.devRef .tc main_arg6)) (σ (Proc.devRef .tc main_arg7)) (σ (Proc.devRef .tc main_arg8)) rfl rfl) k := by
  simp only [opsD, hostOps0_12, List.take_succ_cons, List.take_zero, after_append]
  entry_read
  unfold at2 at1 proj awq wt nib refNibble shiftOf
  pointwise
  simp only [Nat.div_add_mod', Fin.eta]
  rfl

/-- The gated rows' scales. -/
theorem v124_eq (r : Fin 192) :
    at1 (n := 192) (α := EReal) (after opsE σ (Proc.devRef .tc main_v124)) r =
      qs (gated (at2 (n := 192) (m := 9728) (σ (Proc.devRef .tc main_v113)) r)) := by
  simp only [opsE, hostOps0_12, List.drop_succ_cons, List.drop_zero, after_append]
  entry_read
  simp -implicitDefEqProofs only [TRef.toBuf, TRef.ofBuf, cast_cast, cast_eq]
  unfold at1 qs amax gated at2
  pointwise
  simp only [ofBits_127, ofBits_neg127, ofBits_896, ofBits_neginf]
  rfl

/-- The gated rows' codes. -/
theorem v129_eq (r : Fin 192) (k : Fin 4864) :
    at2 (n := 192) (m := 4864) (α := EReal) (after opsE σ (Proc.devRef .tc main_v129)) r k =
      qc (gated (at2 (n := 192) (m := 9728) (σ (Proc.devRef .tc main_v113)) r)) k := by
  simp only [opsE, hostOps0_12, List.drop_succ_cons, List.drop_zero, after_append]
  entry_read
  simp -implicitDefEqProofs only [TRef.toBuf, TRef.ofBuf, cast_cast, cast_eq]
  unfold qc qs amax gated at2
  pointwise
  simp only [ofBits_127, ofBits_neg127, ofBits_896, ofBits_neginf]
  rfl

/-- The residual stream after the down projection. -/
theorem v168_eq (r : Fin 192) (k : Fin 896) :
    at2 (n := 192) (m := 896) (after opsF σ (Proc.devRef .tc main_v168)) r k =
      at2 (n := 192) (m := 896) (α := EReal) (σ (Proc.devRef .tc main_v51)) r k +
        proj (at2 (n := 192) (m := 4864) (σ (Proc.devRef .tc main_v129)) r) (at1 (n := 192) (σ (Proc.devRef .tc main_v124)) r)
          (awq (K := 4864) (G := 38) (W := 112) (J := 896) (σ (Proc.devRef .tc main_arg9)) (σ (Proc.devRef .tc main_arg10)) (σ (Proc.devRef .tc main_arg11)) rfl rfl) k := by
  simp only [opsF, after_append]
  entry_read
  unfold at2 at1 proj awq wt nib refNibble shiftOf
  pointwise
  simp only [Nat.div_add_mod', Fin.eta]
  rfl

/-- What the stage does not write, it keeps. -/
theorem keepA :
    after opsA σ (Proc.devRef .tc main_arg1) = σ (Proc.devRef .tc main_arg1) ∧
    after opsA σ (Proc.devRef .tc main_arg2) = σ (Proc.devRef .tc main_arg2) ∧
    after opsA σ (Proc.devRef .tc main_arg3) = σ (Proc.devRef .tc main_arg3) ∧
    after opsA σ (Proc.devRef .tc main_arg4) = σ (Proc.devRef .tc main_arg4) ∧
    after opsA σ (Proc.devRef .tc main_arg5) = σ (Proc.devRef .tc main_arg5) ∧
    after opsA σ (Proc.devRef .tc main_arg6) = σ (Proc.devRef .tc main_arg6) ∧
    after opsA σ (Proc.devRef .tc main_arg7) = σ (Proc.devRef .tc main_arg7) ∧
    after opsA σ (Proc.devRef .tc main_arg8) = σ (Proc.devRef .tc main_arg8) ∧
    after opsA σ (Proc.devRef .tc main_arg9) = σ (Proc.devRef .tc main_arg9) ∧
    after opsA σ (Proc.devRef .tc main_arg10) = σ (Proc.devRef .tc main_arg10) ∧
    after opsA σ (Proc.devRef .tc main_arg11) = σ (Proc.devRef .tc main_arg11) := by
  refine ⟨?_, ?_, ?_, ?_, ?_, ?_, ?_, ?_, ?_, ?_, ?_⟩ <;>
  exact after_of_forall_not_mem _ _ (List.forall_iff_forall_mem.mp (by
    simp only [opsA, hostOps0, hostOps0_1, hostOps0_2, hostOps0_3, hostOps0_4, hostOps0_5, List.cons_append, List.nil_append, List.Forall, nullary_writes, unary_writes, binary_writes, ternary_writes,
      quaternary_writes, reshape_writes, binaryIndexed_writes, Finset.mem_singleton]
    repeat' apply And.intro
    all_goals exact devRef_ne_of_ne (by decide)))

/-- What the stage does not write, it keeps. -/
theorem keepB :
    after opsB σ (Proc.devRef .tc main_arg1) = σ (Proc.devRef .tc main_arg1) ∧
    after opsB σ (Proc.devRef .tc main_arg5) = σ (Proc.devRef .tc main_arg5) ∧
    after opsB σ (Proc.devRef .tc main_arg6) = σ (Proc.devRef .tc main_arg6) ∧
    after opsB σ (Proc.devRef .tc main_arg7) = σ (Proc.devRef .tc main_arg7) ∧
    after opsB σ (Proc.devRef .tc main_arg8) = σ (Proc.devRef .tc main_arg8) ∧
    after opsB σ (Proc.devRef .tc main_arg9) = σ (Proc.devRef .tc main_arg9) ∧
    after opsB σ (Proc.devRef .tc main_arg10) = σ (Proc.devRef .tc main_arg10) ∧
    after opsB σ (Proc.devRef .tc main_arg11) = σ (Proc.devRef .tc main_arg11) ∧
    after opsB σ (Proc.devRef .tc main_v8) = σ (Proc.devRef .tc main_v8) ∧
    after opsB σ (Proc.devRef .tc main_v13) = σ (Proc.devRef .tc main_v13) := by
  refine ⟨?_, ?_, ?_, ?_, ?_, ?_, ?_, ?_, ?_, ?_⟩ <;>
  exact after_of_forall_not_mem _ _ (List.forall_iff_forall_mem.mp (by
    simp only [opsB, hostOps0_6, List.take_succ_cons, List.take_zero, List.cons_append, List.nil_append, List.Forall, nullary_writes, unary_writes, binary_writes, ternary_writes,
      quaternary_writes, reshape_writes, binaryIndexed_writes, Finset.mem_singleton]
    repeat' apply And.intro
    all_goals exact devRef_ne_of_ne (by decide)))

/-- What the stage does not write, it keeps. -/
theorem keepC :
    after opsC σ (Proc.devRef .tc main_arg1) = σ (Proc.devRef .tc main_arg1) ∧
    after opsC σ (Proc.devRef .tc main_arg6) = σ (Proc.devRef .tc main_arg6) ∧
    after opsC σ (Proc.devRef .tc main_arg7) = σ (Proc.devRef .tc main_arg7) ∧
    after opsC σ (Proc.devRef .tc main_arg8) = σ (Proc.devRef .tc main_arg8) ∧
    after opsC σ (Proc.devRef .tc main_arg9) = σ (Proc.devRef .tc main_arg9) ∧
    after opsC σ (Proc.devRef .tc main_arg10) = σ (Proc.devRef .tc main_arg10) ∧
    after opsC σ (Proc.devRef .tc main_arg11) = σ (Proc.devRef .tc main_arg11) ∧
    after opsC σ (Proc.devRef .tc main_v8) = σ (Proc.devRef .tc main_v8) ∧
    after opsC σ (Proc.devRef .tc main_v13) = σ (Proc.devRef .tc main_v13) ∧
    after opsC σ (Proc.devRef .tc main_v51) = σ (Proc.devRef .tc main_v51) := by
  refine ⟨?_, ?_, ?_, ?_, ?_, ?_, ?_, ?_, ?_, ?_⟩ <;>
  exact after_of_forall_not_mem _ _ (List.forall_iff_forall_mem.mp (by
    simp only [opsC, hostOps0_6, List.drop_succ_cons, List.drop_zero, hostOps0_7, hostOps0_8, hostOps0_9, hostOps0_10, hostOps0_11, List.cons_append, List.nil_append, List.Forall, nullary_writes, unary_writes, binary_writes, ternary_writes,
      quaternary_writes, reshape_writes, binaryIndexed_writes, Finset.mem_singleton]
    repeat' apply And.intro
    all_goals exact devRef_ne_of_ne (by decide)))

/-- What the stage does not write, it keeps. -/
theorem keepD :
    after opsD σ (Proc.devRef .tc main_arg1) = σ (Proc.devRef .tc main_arg1) ∧
    after opsD σ (Proc.devRef .tc main_arg9) = σ (Proc.devRef .tc main_arg9) ∧
    after opsD σ (Proc.devRef .tc main_arg10) = σ (Proc.devRef .tc main_arg10) ∧
    after opsD σ (Proc.devRef .tc main_arg11) = σ (Proc.devRef .tc main_arg11) ∧
    after opsD σ (Proc.devRef .tc main_v8) = σ (Proc.devRef .tc main_v8) ∧
    after opsD σ (Proc.devRef .tc main_v13) = σ (Proc.devRef .tc main_v13) ∧
    after opsD σ (Proc.devRef .tc main_v51) = σ (Proc.devRef .tc main_v51) ∧
    after opsD σ (Proc.devRef .tc main_v71) = σ (Proc.devRef .tc main_v71) ∧
    after opsD σ (Proc.devRef .tc main_v76) = σ (Proc.devRef .tc main_v76) := by
  refine ⟨?_, ?_, ?_, ?_, ?_, ?_, ?_, ?_, ?_⟩ <;>
  exact after_of_forall_not_mem _ _ (List.forall_iff_forall_mem.mp (by
    simp only [opsD, hostOps0_12, List.take_succ_cons, List.take_zero, List.cons_append, List.nil_append, List.Forall, nullary_writes, unary_writes, binary_writes, ternary_writes,
      quaternary_writes, reshape_writes, binaryIndexed_writes, Finset.mem_singleton]
    repeat' apply And.intro
    all_goals exact devRef_ne_of_ne (by decide)))

/-- What the stage does not write, it keeps. -/
theorem keepE :
    after opsE σ (Proc.devRef .tc main_arg1) = σ (Proc.devRef .tc main_arg1) ∧
    after opsE σ (Proc.devRef .tc main_arg9) = σ (Proc.devRef .tc main_arg9) ∧
    after opsE σ (Proc.devRef .tc main_arg10) = σ (Proc.devRef .tc main_arg10) ∧
    after opsE σ (Proc.devRef .tc main_arg11) = σ (Proc.devRef .tc main_arg11) ∧
    after opsE σ (Proc.devRef .tc main_v8) = σ (Proc.devRef .tc main_v8) ∧
    after opsE σ (Proc.devRef .tc main_v13) = σ (Proc.devRef .tc main_v13) ∧
    after opsE σ (Proc.devRef .tc main_v51) = σ (Proc.devRef .tc main_v51) ∧
    after opsE σ (Proc.devRef .tc main_v71) = σ (Proc.devRef .tc main_v71) ∧
    after opsE σ (Proc.devRef .tc main_v76) = σ (Proc.devRef .tc main_v76) := by
  refine ⟨?_, ?_, ?_, ?_, ?_, ?_, ?_, ?_, ?_⟩ <;>
  exact after_of_forall_not_mem _ _ (List.forall_iff_forall_mem.mp (by
    simp only [opsE, hostOps0_12, List.drop_succ_cons, List.drop_zero, hostOps0_13, hostOps0_14, hostOps0_15, hostOps0_16, hostOps0_17, hostOps0_18, hostOps0_19, List.cons_append, List.nil_append, List.Forall, nullary_writes, unary_writes, binary_writes, ternary_writes,
      quaternary_writes, reshape_writes, binaryIndexed_writes, Finset.mem_singleton]
    repeat' apply And.intro
    all_goals exact devRef_ne_of_ne (by decide)))

/-- What the stage does not write, it keeps. -/
theorem keepF :
    after opsF σ (Proc.devRef .tc main_v13) = σ (Proc.devRef .tc main_v13) ∧
    after opsF σ (Proc.devRef .tc main_v51) = σ (Proc.devRef .tc main_v51) ∧
    after opsF σ (Proc.devRef .tc main_v76) = σ (Proc.devRef .tc main_v76) ∧
    after opsF σ (Proc.devRef .tc main_v129) = σ (Proc.devRef .tc main_v129) := by
  refine ⟨?_, ?_, ?_, ?_⟩ <;>
  exact after_of_forall_not_mem _ _ (List.forall_iff_forall_mem.mp (by
    simp only [opsF, hostOps0_20, List.cons_append, List.nil_append, List.Forall, nullary_writes, unary_writes, binary_writes, ternary_writes,
      quaternary_writes, reshape_writes, binaryIndexed_writes, Finset.mem_singleton]
    repeat' apply And.intro
    all_goals exact devRef_ne_of_ne (by decide)))

/-- The residual stream as it enters. -/
theorem v1_eq (r : Fin 192) (k : Fin 896) :
    at2 (n := 192) (m := 896) (α := EReal) (after opsA σ (Proc.devRef .tc main_v1)) r k = at3 (n := 192) (m := 1) (l := 896) (α := EReal) (σ (Proc.devRef .tc main_arg0)) r 0 k := by
  simp only [opsA, after_append]
  entry_read
  unfold at2 at3
  pointwise

/-- The attention rows as a result. -/
theorem v169_eq (r : Fin 192) (k : Fin 896) :
    at2 (n := 192) (m := 896) (α := EReal) (after opsF σ (Proc.devRef .tc main_v169)) r k = at2 (n := 192) (m := 896) (α := EReal) (σ (Proc.devRef .tc main_arg1)) r k := by
  simp only [opsF, after_append]
  entry_read
  unfold at2
  pointwise

/-- The scales as a row. -/
theorem v170_eq (r : Fin 192) :
    at2 (n := 1) (m := 192) (α := EReal) (after opsF σ (Proc.devRef .tc main_v170)) 0 r = at1 (n := 192) (α := EReal) (σ (Proc.devRef .tc main_v8)) r := by
  simp only [opsF, after_append]
  entry_read
  unfold at2 at1
  pointwise

/-- The scales as a row. -/
theorem v171_eq (r : Fin 192) :
    at2 (n := 1) (m := 192) (α := EReal) (after opsF σ (Proc.devRef .tc main_v171)) 0 r = at1 (n := 192) (α := EReal) (σ (Proc.devRef .tc main_v71)) r := by
  simp only [opsF, after_append]
  entry_read
  unfold at2 at1
  pointwise

/-- The scales as a row. -/
theorem v172_eq (r : Fin 192) :
    at2 (n := 1) (m := 192) (α := EReal) (after opsF σ (Proc.devRef .tc main_v172)) 0 r = at1 (n := 192) (α := EReal) (σ (Proc.devRef .tc main_v124)) r := by
  simp only [opsF, after_append]
  entry_read
  unfold at2 at1
  pointwise

/-- The stages are the reference's operations. -/
theorem ops_eq : opsA ++ (opsB ++ (opsC ++ (opsD ++ (opsE ++ opsF)))) =
    List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] := by
  have h : ∀ (n : ℕ) (l r : List (HloOp τ sig (Elt Ideal))), l.take n ++ (l.drop n ++ r) = l ++ r := fun n l r => by
    rw [← List.append_assoc, List.take_append_drop]
  simp only [opsA, opsB, opsC, opsD, opsE, opsF, List.append_assoc, h, List.flatten_cons, List.flatten_nil, List.append_nil]

end Cert.MlpRefIdeal.Value
end
-- ==== Proof.RefOut.lean ====
/- What the reference leaves in each result, as a function of its arguments. -/
module

public import proofs.«01_k».proof.Proof.Ref

@[expose] public section

set_option maxRecDepth 16384

noncomputable section

namespace Cert.MlpRefIdeal.Value

open Idealize.ShloMosaic Idealize.ShloMosaic.TcCoe Idealize.SL.Sem
open Cert.MlpRefIdeal Cert.MlpRefIdeal.Gen Cert.Spec
open StableHlo

variable (σ : Valuation τ sig (Elt Ideal))

/-- The residual stream. -/
def aX (r : Fin 192) (k : Fin 896) : EReal := at3 (n := 192) (m := 1) (l := 896) (α := EReal) (σ (Proc.devRef .tc main_arg0)) r 0 k
/-- The attention rows. -/
def aT (r : Fin 192) : Fin 896 → EReal := at2 (n := 192) (m := 896) (σ (Proc.devRef .tc main_arg1)) r
/-- The output projection's weights. -/
def aWo : Fin 896 → Fin 896 → EReal :=
  awq (K := 896) (G := 7) (W := 112) (J := 896) (σ (Proc.devRef .tc main_arg2)) (σ (Proc.devRef .tc main_arg3)) (σ (Proc.devRef .tc main_arg4)) rfl rfl
/-- The gain of the normalisation. -/
def aG : Fin 896 → EReal := at1 (n := 896) (σ (Proc.devRef .tc main_arg5))
/-- The gate and up weights. -/
def aWgu : Fin 896 → Fin 9728 → EReal :=
  awq (K := 896) (G := 7) (W := 1216) (J := 9728) (σ (Proc.devRef .tc main_arg6)) (σ (Proc.devRef .tc main_arg7)) (σ (Proc.devRef .tc main_arg8)) rfl rfl
/-- The down projection's weights. -/
def aWd : Fin 4864 → Fin 896 → EReal :=
  awq (K := 4864) (G := 38) (W := 112) (J := 896) (σ (Proc.devRef .tc main_arg9)) (σ (Proc.devRef .tc main_arg10)) (σ (Proc.devRef .tc main_arg11)) rfl rfl

/-- The state after the first stage. -/
def s1 : Valuation τ sig (Elt Ideal) := after opsA σ
/-- The state after the second stage. -/
def s2 : Valuation τ sig (Elt Ideal) := after opsB (s1 σ)
/-- The state after the third stage. -/
def s3 : Valuation τ sig (Elt Ideal) := after opsC (s2 σ)
/-- The state after the fourth stage. -/
def s4 : Valuation τ sig (Elt Ideal) := after opsD (s3 σ)
/-- The state after the fifth stage. -/
def s5 : Valuation τ sig (Elt Ideal) := after opsE (s4 σ)
/-- The state after the last stage. -/
def s6 : Valuation τ sig (Elt Ideal) := after opsF (s5 σ)

/-- The attention rows' scales. -/
theorem s1_v8 (r : Fin 192) : at1 (n := 192) (α := EReal) (s1 σ (Proc.devRef .tc main_v8)) r = qs (aT σ r) := v8_eq σ r

/-- The attention rows' codes. -/
theorem s1_v13 (r : Fin 192) : at2 (n := 192) (m := 896) (α := EReal) (s1 σ (Proc.devRef .tc main_v13)) r = qc (aT σ r) :=
  funext fun k => v13_eq σ r k

/-- The residual stream after the output projection. -/
theorem s2_v51 (r : Fin 192) : at2 (n := 192) (m := 896) (α := EReal) (s2 σ (Proc.devRef .tc main_v51)) r = hmid (aX σ) (aT σ) (aWo σ) r := by
  obtain ⟨-, h2, h3, h4, -⟩ := keepA σ
  funext k
  unfold s2
  rw [v51_eq, s1_v8, s1_v13]
  unfold s1
  rw [v1_eq, h2, h3, h4]
  rfl

/-- The gain, as it reaches the normalisation. -/
theorem s2_arg5 : s2 σ (Proc.devRef .tc main_arg5) = σ (Proc.devRef .tc main_arg5) := by
  obtain ⟨-, -, -, -, h, -⟩ := keepA σ
  obtain ⟨-, h', -⟩ := keepB (s1 σ)
  exact h'.trans h

/-- The normalised rows' scales. -/
theorem s3_v71 (r : Fin 192) : at1 (n := 192) (α := EReal) (s3 σ (Proc.devRef .tc main_v71)) r = qs (zrow (aX σ) (aT σ) (aWo σ) (aG σ) r) := by
  unfold s3
  rw [v71_eq, s2_v51, s2_arg5]
  rfl

/-- The normalised rows' codes. -/
theorem s3_v76 (r : Fin 192) : at2 (n := 192) (m := 896) (α := EReal) (s3 σ (Proc.devRef .tc main_v76)) r = qc (zrow (aX σ) (aT σ) (aWo σ) (aG σ) r) := by
  funext k
  unfold s3
  rw [v76_eq, s2_v51, s2_arg5]
  rfl

/-- The gate and up weights, as they reach their products. -/
theorem s3_args : s3 σ (Proc.devRef .tc main_arg6) = σ (Proc.devRef .tc main_arg6) ∧
    s3 σ (Proc.devRef .tc main_arg7) = σ (Proc.devRef .tc main_arg7) ∧ s3 σ (Proc.devRef .tc main_arg8) = σ (Proc.devRef .tc main_arg8) := by
  obtain ⟨-, -, -, -, -, a6, a7, a8, -⟩ := keepA σ
  obtain ⟨-, -, b6, b7, b8, -⟩ := keepB (s1 σ)
  obtain ⟨-, c6, c7, c8, -⟩ := keepC (s2 σ)
  exact ⟨c6.trans (b6.trans a6), c7.trans (b7.trans a7), c8.trans (b8.trans a8)⟩

/-- The gate and up columns. -/
theorem s4_v113 (r : Fin 192) : at2 (n := 192) (m := 9728) (α := EReal) (s4 σ (Proc.devRef .tc main_v113)) r =
    qproj (zrow (aX σ) (aT σ) (aWo σ) (aG σ) r) (aWgu σ) := by
  obtain ⟨h6, h7, h8⟩ := s3_args σ
  funext k
  unfold s4
  rw [v113_eq, s3_v71, s3_v76, h6, h7, h8]
  rfl

/-- The gated rows' scales. -/
theorem s5_v124 (r : Fin 192) : at1 (n := 192) (α := EReal) (s5 σ (Proc.devRef .tc main_v124)) r =
    qs (act (aX σ) (aT σ) (aWo σ) (aG σ) (aWgu σ) r) := by
  unfold s5
  rw [v124_eq, s4_v113]
  rfl

/-- The gated rows' codes. -/
theorem s5_v129 (r : Fin 192) : at2 (n := 192) (m := 4864) (α := EReal) (s5 σ (Proc.devRef .tc main_v129)) r =
    qc (act (aX σ) (aT σ) (aWo σ) (aG σ) (aWgu σ) r) := by
  funext k
  unfold s5
  rw [v129_eq, s4_v113]
  rfl

/-- What reaches the last stage unchanged. -/
theorem s5_keep : s5 σ (Proc.devRef .tc main_arg1) = σ (Proc.devRef .tc main_arg1) ∧
    s5 σ (Proc.devRef .tc main_arg9) = σ (Proc.devRef .tc main_arg9) ∧ s5 σ (Proc.devRef .tc main_arg10) = σ (Proc.devRef .tc main_arg10) ∧
    s5 σ (Proc.devRef .tc main_arg11) = σ (Proc.devRef .tc main_arg11) ∧ s5 σ (Proc.devRef .tc main_v8) = s1 σ (Proc.devRef .tc main_v8) ∧
    s5 σ (Proc.devRef .tc main_v13) = s1 σ (Proc.devRef .tc main_v13) ∧ s5 σ (Proc.devRef .tc main_v51) = s2 σ (Proc.devRef .tc main_v51) ∧
    s5 σ (Proc.devRef .tc main_v71) = s3 σ (Proc.devRef .tc main_v71) ∧ s5 σ (Proc.devRef .tc main_v76) = s3 σ (Proc.devRef .tc main_v76) := by
  obtain ⟨a1, -, -, -, -, -, -, -, a9, a10, a11⟩ := keepA σ
  obtain ⟨b1, -, -, -, -, b9, b10, b11, b8', b13⟩ := keepB (s1 σ)
  obtain ⟨c1, -, -, -, c9, c10, c11, c8', c13, c51⟩ := keepC (s2 σ)
  obtain ⟨d1, d9, d10, d11, d8', d13, d51, d71, d76⟩ := keepD (s3 σ)
  obtain ⟨e1, e9, e10, e11, e8', e13, e51, e71, e76⟩ := keepE (s4 σ)
  exact ⟨e1.trans (d1.trans (c1.trans (b1.trans a1))), e9.trans (d9.trans (c9.trans (b9.trans a9))),
    e10.trans (d10.trans (c10.trans (b10.trans a10))), e11.trans (d11.trans (c11.trans (b11.trans a11))),
    e8'.trans (d8'.trans (c8'.trans b8')), e13.trans (d13.trans (c13.trans b13)), e51.trans (d51.trans c51), e71.trans d71, e76.trans d76⟩

/-- Result 0: the residual stream after the down projection. -/
theorem s6_v168 (r : Fin 192) (k : Fin 896) : at2 (n := 192) (m := 896) (α := EReal) (s6 σ (Proc.devRef .tc main_v168)) r k =
    out (aX σ) (aT σ) (aWo σ) (aG σ) (aWgu σ) (aWd σ) r k := by
  obtain ⟨-, h9, h10, h11, -, -, h51, -⟩ := s5_keep σ
  unfold s6
  rw [v168_eq, s5_v124, s5_v129, h9, h10, h11, h51, s2_v51]
  rfl

/-- Result 1: the residual stream after the output projection. -/
theorem s6_v51 (r : Fin 192) (k : Fin 896) : at2 (n := 192) (m := 896) (α := EReal) (s6 σ (Proc.devRef .tc main_v51)) r k =
    hmid (aX σ) (aT σ) (aWo σ) r k := by
  obtain ⟨-, -, -, -, -, -, h51, -⟩ := s5_keep σ
  obtain ⟨-, f51, -⟩ := keepF (s5 σ)
  unfold s6
  rw [f51, h51, s2_v51]

/-- Result 2: the attention rows. -/
theorem s6_v169 (r : Fin 192) (k : Fin 896) : at2 (n := 192) (m := 896) (α := EReal) (s6 σ (Proc.devRef .tc main_v169)) r k = aT σ r k := by
  obtain ⟨h1, -⟩ := s5_keep σ
  unfold s6
  rw [v169_eq, h1]
  rfl

/-- Result 3, before its narrowing: the attention rows' codes. -/
theorem s6_v13 (r : Fin 192) (k : Fin 896) : at2 (n := 192) (m := 896) (α := EReal) (s6 σ (Proc.devRef .tc main_v13)) r k = qc (aT σ r) k := by
  obtain ⟨-, -, -, -, -, h13, -⟩ := s5_keep σ
  obtain ⟨f13, -⟩ := keepF (s5 σ)
  unfold s6
  rw [f13, h13, s1_v13]

/-- Result 4: the attention rows' scales. -/
theorem s6_v170 (r : Fin 192) : at2 (n := 1) (m := 192) (α := EReal) (s6 σ (Proc.devRef .tc main_v170)) 0 r = qs (aT σ r) := by
  obtain ⟨-, -, -, -, h8, -⟩ := s5_keep σ
  unfold s6
  rw [v170_eq, h8, s1_v8]

/-- Result 5, before its narrowing: the normalised rows' codes. -/
theorem s6_v76 (r : Fin 192) (k : Fin 896) : at2 (n := 192) (m := 896) (α := EReal) (s6 σ (Proc.devRef .tc main_v76)) r k =
    qc (zrow (aX σ) (aT σ) (aWo σ) (aG σ) r) k := by
  obtain ⟨-, -, -, -, -, -, -, -, h76⟩ := s5_keep σ
  obtain ⟨-, -, f76, -⟩ := keepF (s5 σ)
  unfold s6
  rw [f76, h76, s3_v76]

/-- Result 6: the normalised rows' scales. -/
theorem s6_v171 (r : Fin 192) : at2 (n := 1) (m := 192) (α := EReal) (s6 σ (Proc.devRef .tc main_v171)) 0 r =
    qs (zrow (aX σ) (aT σ) (aWo σ) (aG σ) r) := by
  obtain ⟨-, -, -, -, -, -, -, h71, -⟩ := s5_keep σ
  unfold s6
  rw [v171_eq, h71, s3_v71]

/-- Result 7, before its narrowing: the gated rows' codes. -/
theorem s6_v129 (r : Fin 192) (k : Fin 4864) : at2 (n := 192) (m := 4864) (α := EReal) (s6 σ (Proc.devRef .tc main_v129)) r k =
    qc (act (aX σ) (aT σ) (aWo σ) (aG σ) (aWgu σ) r) k := by
  obtain ⟨-, -, -, f129⟩ := keepF (s5 σ)
  unfold s6
  rw [f129, s5_v129]

/-- Result 8: the gated rows' scales. -/
theorem s6_v172 (r : Fin 192) : at2 (n := 1) (m := 192) (α := EReal) (s6 σ (Proc.devRef .tc main_v172)) 0 r =
    qs (act (aX σ) (aT σ) (aWo σ) (aG σ) (aWgu σ) r) := by
  unfold s6
  rw [v172_eq, s5_v124]

variable (m : (ℓ : Loc nD τ sig) → Buf (Elt Ideal) ℓ)

/-- What the reference's region finds in each buffer is the state after the last stage. -/
theorem V_eq (c : Dev nD) (b : Ref sig .tc) : V m c b = s6 (fun b => m (c, b)) (Proc.devRef .tc b) := by
  unfold s6 s5 s4 s3 s2 s1
  rw [← StableHlo.after_append, ← StableHlo.after_append, ← StableHlo.after_append, ← StableHlo.after_append, ← StableHlo.after_append, ops_eq]

end Cert.MlpRefIdeal.Value
end
-- ==== Proof.RefFinal.lean ====
/- The reference's nine results after its run, each as one function of the arguments in the shared terms of Spec. Six are host values; the other
   three are narrowed to bytes by a kernel whose one block is the whole array. -/
module
public import proofs.«01_k».proof.Proof.RefOut
public import proofs.«01_k».proof.Proof.Gen.MlpRefIdeal.Value
public import Idealize.ShloMosaic.Lib.Pipeline.ValueKit

@[expose] public section

set_option maxRecDepth 16384

noncomputable section

namespace Cert.MlpRefIdeal.Value

open Idealize.ShloMosaic Idealize.ShloMosaic.TcCoe Idealize.SL.Sem
open Cert.MlpRefIdeal Cert.MlpRefIdeal.Gen Cert.Spec

/-- An array that agrees with a table of rows and columns at every index is that table. -/
theorem table {n k : ℕ} {α : Type} (f : (⟨2, ![n, k]⟩ : Shape).Idx → α) (g : Fin n → Fin k → α) (h : ∀ r j, at2 (n := n) (m := k) (α := α) f r j = g r j) :
    f = fun y => g (y 0) (y 1) := by
  funext y
  have e : y = ix2 (y 0) (y 1) := by funext a; fin_cases a <;> rfl
  exact (congrArg f e).trans (h _ _)

variable (m : (ℓ : Loc nD τ sig) → Buf (Elt Ideal) ℓ) (c : Dev nD)

/-- A device's memory at the start, by buffer. -/
def mem : Valuation τ sig (Elt Ideal) := fun b => m (c, b)

/-- Window 0's block is its whole array. -/
theorem read0 (f : S192x896.Idx → EReal) (r : Fin 192) (k : Fin 896) : ((cfg0.win 0).blk t0_0).view.read (Elt Ideal) f (ix2 r k) = f (ix2 r k) := by
  have hi : win0_0.index t0_0 0 = 0 := by decide +kernel
  have hj : win0_0.index t0_0 1 = 0 := by decide +kernel
  blk_ext! [hi, hj]

/-- The codes of the attention rows, as the host holds them. -/
theorem block3 (r : Fin 192) (k : Fin 896) : iblk m c 0 t0_0 (ix2 r k) = qc (aT (mem m c) r) k := by
  unfold iblk
  exact (read0 (V m c main_v13) r k).trans ((congrFun (V_eq m c main_v13) (ix2 r k)).trans (s6_v13 (mem m c) r k))

/-- The codes of the attention rows, narrowed to bytes. -/
theorem final3 : (dats m 0 c).arrAt 3 (cfgs 0).N = fun y : S192x896.Idx => FloatOps.fptosi (F := Ideal) (φ := .f32) 8 (qc ((fun r : Fin 192 => aT (mem m c) r) (y 0)) (y 1)) := by
  have h : ∀ r k, k0_pay1 (F := Ideal) (iblk m c 0 t0_0) (ix2 r k) = FloatOps.fptosi (F := Ideal) (φ := .f32) 8 (qc (aT (mem m c) r) k) := fun r k => by
    pointwise [k0_pay1]
    rw [block3]
  refine (dats m 0 c).arrAt_eq_of_after_last 3 t0_0 (by decide +kernel) _ fun j => ?_
  rw [after0_3]
  frame_out
  have e : (fun a => ⟨(j a).val, (j a).isLt⟩ : S192x896.Idx) = ix2 ⟨(j 0).val, (j 0).isLt⟩ ⟨(j 1).val, (j 1).isLt⟩ := by
    funext a; fin_cases a <;> rfl
  exact (congrArg _ e).trans (h _ _)

/-- Window 1's block is its whole array. -/
theorem read1 (f : S192x896.Idx → EReal) (r : Fin 192) (k : Fin 896) : ((cfg0.win 1).blk t0_0).view.read (Elt Ideal) f (ix2 r k) = f (ix2 r k) := by
  have hi : win0_1.index t0_0 0 = 0 := by decide +kernel
  have hj : win0_1.index t0_0 1 = 0 := by decide +kernel
  blk_ext! [hi, hj]

/-- The codes of the normalised rows, as the host holds them. -/
theorem block4 (r : Fin 192) (k : Fin 896) : iblk m c 1 t0_0 (ix2 r k) = qc (zrow (aX (mem m c)) (aT (mem m c)) (aWo (mem m c)) (aG (mem m c)) r) k := by
  unfold iblk
  exact (read1 (V m c main_v76) r k).trans ((congrFun (V_eq m c main_v76) (ix2 r k)).trans (s6_v76 (mem m c) r k))

/-- The codes of the normalised rows, narrowed to bytes. -/
theorem final4 : (dats m 0 c).arrAt 4 (cfgs 0).N = fun y : S192x896.Idx => FloatOps.fptosi (F := Ideal) (φ := .f32) 8 (qc ((fun r : Fin 192 => zrow (aX (mem m c)) (aT (mem m c)) (aWo (mem m c)) (aG (mem m c)) r) (y 0)) (y 1)) := by
  have h : ∀ r k, k0_pay2 (F := Ideal) (iblk m c 1 t0_0) (ix2 r k) = FloatOps.fptosi (F := Ideal) (φ := .f32) 8 (qc (zrow (aX (mem m c)) (aT (mem m c)) (aWo (mem m c)) (aG (mem m c)) r) k) := fun r k => by
    pointwise [k0_pay2]
    rw [block4]
  refine (dats m 0 c).arrAt_eq_of_after_last 4 t0_0 (by decide +kernel) _ fun j => ?_
  rw [after0_4]
  frame_out
  have e : (fun a => ⟨(j a).val, (j a).isLt⟩ : S192x896.Idx) = ix2 ⟨(j 0).val, (j 0).isLt⟩ ⟨(j 1).val, (j 1).isLt⟩ := by
    funext a; fin_cases a <;> rfl
  exact (congrArg _ e).trans (h _ _)

/-- Window 2's block is its whole array. -/
theorem read2 (f : S192x4864.Idx → EReal) (r : Fin 192) (k : Fin 4864) : ((cfg0.win 2).blk t0_0).view.read (Elt Ideal) f (ix2 r k) = f (ix2 r k) := by
  have hi : win0_2.index t0_0 0 = 0 := by decide +kernel
  have hj : win0_2.index t0_0 1 = 0 := by decide +kernel
  blk_ext! [hi, hj]

/-- The codes of the gated rows, as the host holds them. -/
theorem block5 (r : Fin 192) (k : Fin 4864) : iblk m c 2 t0_0 (ix2 r k) = qc (act (aX (mem m c)) (aT (mem m c)) (aWo (mem m c)) (aG (mem m c)) (aWgu (mem m c)) r) k := by
  unfold iblk
  exact (read2 (V m c main_v129) r k).trans ((congrFun (V_eq m c main_v129) (ix2 r k)).trans (s6_v129 (mem m c) r k))

/-- The codes of the gated rows, narrowed to bytes. -/
theorem final5 : (dats m 0 c).arrAt 5 (cfgs 0).N = fun y : S192x4864.Idx => FloatOps.fptosi (F := Ideal) (φ := .f32) 8 (qc ((fun r : Fin 192 => act (aX (mem m c)) (aT (mem m c)) (aWo (mem m c)) (aG (mem m c)) (aWgu (mem m c)) r) (y 0)) (y 1)) := by
  have h : ∀ r k, k0_pay3 (F := Ideal) (iblk m c 2 t0_0) (ix2 r k) = FloatOps.fptosi (F := Ideal) (φ := .f32) 8 (qc (act (aX (mem m c)) (aT (mem m c)) (aWo (mem m c)) (aG (mem m c)) (aWgu (mem m c)) r) k) := fun r k => by
    pointwise [k0_pay3]
    rw [block5]
  refine (dats m 0 c).arrAt_eq_of_after_last 5 t0_0 (by decide +kernel) _ fun j => ?_
  rw [after0_5]
  frame_out
  have e : (fun a => ⟨(j a).val, (j a).isLt⟩ : S192x4864.Idx) = ix2 ⟨(j 0).val, (j 0).isLt⟩ ⟨(j 1).val, (j 1).isLt⟩ := by
    funext a; fin_cases a <;> rfl
  exact (congrArg _ e).trans (h _ _)

/-- The host's value v168: the call's output. -/
theorem host_v168 : V m c main_v168 = fun y : S192x896.Idx => out (aX (mem m c)) (aT (mem m c)) (aWo (mem m c)) (aG (mem m c)) (aWgu (mem m c)) (aWd (mem m c)) (y 0) (y 1) :=
  (V_eq m c main_v168).trans (table _ (out (aX (mem m c)) (aT (mem m c)) (aWo (mem m c)) (aG (mem m c)) (aWgu (mem m c)) (aWd (mem m c))) fun r k => s6_v168 (mem m c) r k)

/-- The host's value v51: the residual stream with the projected attention rows. -/
theorem host_v51 : V m c main_v51 = fun y : S192x896.Idx => hmid (aX (mem m c)) (aT (mem m c)) (aWo (mem m c)) (y 0) (y 1) :=
  (V_eq m c main_v51).trans (table _ (hmid (aX (mem m c)) (aT (mem m c)) (aWo (mem m c))) fun r k => s6_v51 (mem m c) r k)

/-- The host's value v169: the attention rows. -/
theorem host_v169 : V m c main_v169 = fun y : S192x896.Idx => aT (mem m c) (y 0) (y 1) :=
  (V_eq m c main_v169).trans (table _ (aT (mem m c)) fun r k => s6_v169 (mem m c) r k)

/-- The host's value v170: the attention rows' scales. -/
theorem host_v170 : V m c main_v170 = fun y : S1x192.Idx => qs (aT (mem m c) (y 1)) :=
  (V_eq m c main_v170).trans (table _ (fun (_ : Fin 1) r => qs (aT (mem m c) r)) fun o r => by
    obtain rfl : o = 0 := Subsingleton.elim _ _
    exact s6_v170 (mem m c) r)

/-- The host's value v171: the normalised rows' scales. -/
theorem host_v171 : V m c main_v171 = fun y : S1x192.Idx => qs (zrow (aX (mem m c)) (aT (mem m c)) (aWo (mem m c)) (aG (mem m c)) (y 1)) :=
  (V_eq m c main_v171).trans (table _ (fun (_ : Fin 1) r => qs (zrow (aX (mem m c)) (aT (mem m c)) (aWo (mem m c)) (aG (mem m c)) r)) fun o r => by
    obtain rfl : o = 0 := Subsingleton.elim _ _
    exact s6_v171 (mem m c) r)

/-- The host's value v172: the gated rows' scales. -/
theorem host_v172 : V m c main_v172 = fun y : S1x192.Idx => qs (act (aX (mem m c)) (aT (mem m c)) (aWo (mem m c)) (aG (mem m c)) (aWgu (mem m c)) (y 1)) :=
  (V_eq m c main_v172).trans (table _ (fun (_ : Fin 1) r => qs (act (aX (mem m c)) (aT (mem m c)) (aWo (mem m c)) (aG (mem m c)) (aWgu (mem m c)) r)) fun o r => by
    obtain rfl : o = 0 := Subsingleton.elim _ _
    exact s6_v172 (mem m c) r)

variable (ρ : Dev nD → PrngReg)

/-- The reference's run: every result holds the stated function of the arguments, and the arguments are unchanged. -/
theorem run_results : θ_run defs (onTc (τ := τ) (main (F := Ideal))) ⟨m, fun _ => 0, ρ⟩ fun r => ∀ c : Dev nD,
      r.2.mem ((c : Thread nD τ).loc main_v168) = (fun y : S192x896.Idx => out (aX (mem m c)) (aT (mem m c)) (aWo (mem m c)) (aG (mem m c)) (aWgu (mem m c)) (aWd (mem m c)) (y 0) (y 1))
      ∧ r.2.mem ((c : Thread nD τ).loc main_v51) = (fun y : S192x896.Idx => hmid (aX (mem m c)) (aT (mem m c)) (aWo (mem m c)) (y 0) (y 1))
      ∧ r.2.mem ((c : Thread nD τ).loc main_v169) = (fun y : S192x896.Idx => aT (mem m c) (y 0) (y 1))
      ∧ r.2.mem ((c : Thread nD τ).loc main_v173_0) = (fun y : S192x896.Idx => FloatOps.fptosi (F := Ideal) (φ := .f32) 8 (qc ((fun r : Fin 192 => aT (mem m c) r) (y 0)) (y 1)))
      ∧ r.2.mem ((c : Thread nD τ).loc main_v170) = (fun y : S1x192.Idx => qs (aT (mem m c) (y 1)))
      ∧ r.2.mem ((c : Thread nD τ).loc main_v173_1) = (fun y : S192x896.Idx => FloatOps.fptosi (F := Ideal) (φ := .f32) 8 (qc ((fun r : Fin 192 => zrow (aX (mem m c)) (aT (mem m c)) (aWo (mem m c)) (aG (mem m c)) r) (y 0)) (y 1)))
      ∧ r.2.mem ((c : Thread nD τ).loc main_v171) = (fun y : S1x192.Idx => qs (zrow (aX (mem m c)) (aT (mem m c)) (aWo (mem m c)) (aG (mem m c)) (y 1)))
      ∧ r.2.mem ((c : Thread nD τ).loc main_v173_2) = (fun y : S192x4864.Idx => FloatOps.fptosi (F := Ideal) (φ := .f32) 8 (qc ((fun r : Fin 192 => act (aX (mem m c)) (aT (mem m c)) (aWo (mem m c)) (aG (mem m c)) (aWgu (mem m c)) r) (y 0)) (y 1)))
      ∧ r.2.mem ((c : Thread nD τ).loc main_v172) = (fun y : S1x192.Idx => qs (act (aX (mem m c)) (aT (mem m c)) (aWo (mem m c)) (aG (mem m c)) (aWgu (mem m c)) (y 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => by
    have rest := (h c).2
    exact ⟨(rest main_v168 (Pipeline.mem_restRefs_of main_v168 (by decide) (by decide))).trans (host_v168 m c),
      (rest main_v51 (Pipeline.mem_restRefs_of main_v51 (by decide) (by decide))).trans (host_v51 m c),
      (rest main_v169 (Pipeline.mem_restRefs_of main_v169 (by decide) (by decide))).trans (host_v169 m c),
      (post3 m r h c).trans (final3 m c),
      (rest main_v170 (Pipeline.mem_restRefs_of main_v170 (by decide) (by decide))).trans (host_v170 m c),
      (post4 m r h c).trans (final4 m c),
      (rest main_v171 (Pipeline.mem_restRefs_of main_v171 (by decide) (by decide))).trans (host_v171 m c),
      (post5 m r h c).trans (final5 m c),
      (rest main_v172 (Pipeline.mem_restRefs_of main_v172 (by decide) (by decide))).trans (host_v172 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.MlpRefIdeal.Value

end
-- ==== Proof.lean ====
/- The proof of this certificate's claim: the frames of the kernel at its own arithmetic, of the kernel at ideal arithmetic and of the reference;
   the two ideal constants; and the equality of the kernel's nine results with the reference's at ideal arithmetic. Both sides arrive as the
   shared terms of Spec over their own arguments (Final for the kernel, RefFinal for the reference); here the arguments are identified. -/
module

public import proofs.«01_k».proof.Defs
public import proofs.«01_k».proof.Proof.Frame
public import proofs.«01_k».proof.Proof.FrameIdeal
public import proofs.«01_k».proof.Proof.Blocks
public import proofs.«01_k».proof.Proof.Final
public import proofs.«01_k».proof.Proof.RefFinal
public import proofs.«01_k».proof.Proof.Gen.MlpRefIdeal.Frame
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Spec Cert.MlpIdeal.Value Cert.MlpRefIdeal.Value

/-- Equal words, zero points and scales give equal weights. -/
theorem awq_congr {K G W J : ℕ} {q q' : (⟨2, ![K, W]⟩ : Shape).Idx → BitVec 32} {z z' : (⟨2, ![G, W]⟩ : Shape).Idx → BitVec 32}
    {s s' : (⟨2, ![G, J]⟩ : Shape).Idx → EReal} (hJ : J = 8 * W) (hK : K = 128 * G) (hq : q = q') (hz : z = z') (hs : s = s') :
    awq q z s hJ hK = awq q' z' s' hJ hK := by
  subst hq hz hs
  rfl

variable (m : (ℓ : Loc Cert.MlpIdeal.nD Cert.MlpIdeal.τ Cert.MlpIdeal.sig) → Buf (Elt Ideal) ℓ)
  (m' : (ℓ : Loc Cert.MlpRefIdeal.nD Cert.MlpRefIdeal.τ Cert.MlpRefIdeal.sig) → Buf (Elt Ideal) ℓ) (c : Dev Cert.MlpIdeal.nD)

/-- Equal arguments give the same residual stream. -/
theorem eX
    (h0 : m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)) :
    aX (Cert.MlpRefIdeal.Value.mem m' c) = pX m c :=
  funext fun r => funext fun k => congrFun h0 (ix3 r 0 k)

/-- Equal arguments give the same attention rows. -/
theorem eT
    (h1 : m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)) :
    aT (Cert.MlpRefIdeal.Value.mem m' c) = pT m c :=
  funext fun r => funext fun k => congrFun h1 (ix2 r k)

/-- Equal arguments give the same gain. -/
theorem eG
    (h5 : m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) :
    aG (Cert.MlpRefIdeal.Value.mem m' c) = pG m c :=
  funext fun k => congrFun h5 (ix1 k)

/-- Equal arguments give the same output projection weights. -/
theorem eWo
    (h2 : m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2))
    (h3 : m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3))
    (h4 : m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) :
    aWo (Cert.MlpRefIdeal.Value.mem m' c) = pWo m c :=
  awq_congr rfl rfl h2 h3 h4

/-- Equal arguments give the same gate and up weights. -/
theorem eWgu
    (h6 : m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6))
    (h7 : m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7))
    (h8 : m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) :
    aWgu (Cert.MlpRefIdeal.Value.mem m' c) = pWgu m c :=
  awq_congr rfl rfl h6 h7 h8

/-- Equal arguments give the same down projection weights. -/
theorem eWd
    (h9 : m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9))
    (h10 : m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10))
    (h11 : m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) :
    aWd (Cert.MlpRefIdeal.Value.mem m' c) = pWd m c :=
  awq_congr rfl rfl h9 h10 h11

/-- The kernel's nine results are the reference's, at ideal arithmetic, and both leave their arguments unchanged. -/
theorem results : Cert.algebraic_MlpIdeal_MlpRefIdeal (hMlpIdeal := Cert.MlpIdeal.Gen.facts) (hMlpRefIdeal := Cert.MlpRefIdeal.Gen.facts) := by
  intro m g m' g' _ hA
  refine ⟨fun c => K12 m c, fun c => K13 m c, fun c => K14 m c, fun c => K15 m c, fun c => K16 m c, fun c => K17 m c, fun c => K18 m c,
    fun c => K19 m c, fun c => K20 m c, ?_, ?_⟩
  · refine (θ_run _ _ _).mono (fun r h c => ?_) (Cert.MlpIdeal.Value.run_blocks m g)
    obtain ⟨h12, h13, h14, h15, h16, h17, h18, h19, h20, rest⟩ := h c
    exact ⟨h12.trans (final12 m c), h13.trans (final13 m c), h14.trans (final14 m c), h15.trans (final15 m c), h16.trans (final16 m c),
      h17.trans (final17 m c), h18.trans (final18 m c), h19.trans (final19 m c), h20.trans (final20 m c), rest⟩
  · refine (θ_run _ _ _).mono (fun r h c => ?_) (Cert.MlpRefIdeal.Value.run_results m' g')
    obtain ⟨g0, g1, g2, g3, g4, g5, g6, g7, g8, g9, g10, g11⟩ := hA c
    have hX := eX m m' c g0
    have hT := eT m m' c g1
    have hG := eG m m' c g5
    have hWo := eWo m m' c g2 g3 g4
    have hWgu := eWgu m m' c g6 g7 g8
    have hWd := eWd m m' c g9 g10 g11
    have hc := h c
    rw [hX, hT, hG, hWo, hWgu, hWd] at hc
    exact hc

/-- Every claim of this certificate. -/
theorem claim : Cert.Claim := ⟨Cert.Mlp.Gen.facts, Cert.MlpIdeal.Gen.facts, Cert.MlpRefIdeal.Gen.facts,
  fun m ρ _ => Cert.Mlp.Gen.frame m ρ, fun m ρ _ => Cert.MlpIdeal.Gen.frame m ρ, fun m ρ _ => Cert.MlpRefIdeal.Gen.frame m ρ,
  ⟨IdealRules.named_const.statement _ _ _ _ _ rfl, IdealRules.named_const.statement _ _ _ _ _ rfl⟩, results⟩

end Cert.Proof

end
